-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![32, 128, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![32, 128, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S32x128x64x64 : Shape := ⟨4, ![32, 128, 64, 64]⟩
abbrev S256x512 : Shape := ⟨2, ![256, 512]⟩
abbrev S9x512x256 : Shape := ⟨3, ![9, 512, 256]⟩
abbrev S9x256x512 : Shape := ⟨3, ![9, 256, 512]⟩
abbrev S8x512x256 : Shape := ⟨3, ![8, 512, 256]⟩
abbrev S8x256x512 : Shape := ⟨3, ![8, 256, 512]⟩
abbrev S2x128x64x64 : Shape := ⟨4, ![2, 128, 64, 64]⟩
abbrev S256x256 : Shape := ⟨2, ![256, 256]⟩
abbrev S8 : Shape := ⟨1, ![8]⟩
abbrev S7 : Shape := ⟨1, ![7]⟩
abbrev S2 : Shape := ⟨1, ![2]⟩
abbrev S1 : Shape := ⟨1, ![1]⟩
abbrev S_ : Shape := ⟨0, ![]⟩
abbrev S1x512x256 : Shape := ⟨3, ![1, 512, 256]⟩
abbrev S1x256x512 : Shape := ⟨3, ![1, 256, 512]⟩
abbrev S128x64 : Shape := ⟨2, ![128, 64]⟩
abbrev S1x128x1x64 : Shape := ⟨4, ![1, 128, 1, 64]⟩
abbrev S128x1x64 : Shape := ⟨3, ![128, 1, 64]⟩
abbrev S128x128 : Shape := ⟨2, ![128, 128]⟩
abbrev S128 : Shape := ⟨1, ![128]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S32x128x64x64, .f32⟩
  | .hbm, ⟨3, _⟩ => ⟨S32x128x64x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S9x512x256, .bf16⟩
  | .local _ .vmem, ⟨5, _⟩ => ⟨S9x256x512, .bf16⟩
  | .local _ .vmem, ⟨6, _⟩ => ⟨S8x512x256, .bf16⟩
  | .local _ .vmem, ⟨7, _⟩ => ⟨S8x256x512, .bf16⟩
  | .local _ .vmem, ⟨8, _⟩ => ⟨S2x128x64x64, .f32⟩
  | .local _ .vmem, ⟨9, _⟩ => ⟨S2x128x64x64, .f32⟩
  | .local _ .vmem, ⟨10, _⟩ => ⟨S256x256, .bf16⟩
  | .local _ .vmem, ⟨11, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 4 → Nat :=
  let c2_i32 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v8 : BitVec 32 := Scalar.muli c2_i32 v2
  let c0_i32_6 : BitVec 32 := 0#32
  let c0_i32_7 : BitVec 32 := 0#32
  let c0_i32_8 : BitVec 32 := 0#32
  ![v8.toNat, 0, 0, 0]
def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_29 : BitVec 32 := 1#32
  let v35 : BitVec 32 := Scalar.muli v5 c1_i32_29
  let v36 : BitVec 32 := Scalar.addi c0_i32_30 v35
  v36.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_32 : BitVec 32 := 1#32
  let v37 : BitVec 32 := Scalar.muli v7 c1_i32_32
  let v38 : BitVec 32 := Scalar.addi c0_i32_33 v37
  v38.toNat
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_52 : BitVec 32 := 1#32
  let v53 : BitVec 32 := Scalar.muli v7 c1_i32_52
  let v54 : BitVec 32 := Scalar.addi c0_i32_53 v53
  v54.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_62 : BitVec 32 := 1#32
  let v63 : BitVec 32 := Scalar.muli v7 c1_i32_62
  let v64 : BitVec 32 := Scalar.addi c0_i32_63 v63
  v64.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_72 : BitVec 32 := 1#32
  let v73 : BitVec 32 := Scalar.muli v5 c1_i32_72
  let v74 : BitVec 32 := Scalar.addi c0_i32_73 v73
  v74.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_82 : BitVec 32 := 1#32
  let v83 : BitVec 32 := Scalar.muli v5 c1_i32_82
  let v84 : BitVec 32 := Scalar.addi c0_i32_83 v83
  v84.toNat
def k0_off2 (d0 : Dev nD) (c0_i32_94 : BitVec 32) (c0_i32_98 : BitVec 32) : Fin 4 → Nat :=
  let c0_99 : Index := 0#32
  let c0_100 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v97 : BitVec 32 := Scalar.subi v2 c0_i32_94
  let c16_i32_95 : BitVec 32 := 16#32
  let v98 : BitVec 32 := Scalar.addi v97 c16_i32_95
  let c16_i32_96 : BitVec 32 := 16#32
  let v99 : BitVec 32 := Scalar.remsi v98 c16_i32_96
  let c4_i32 : BitVec 32 := 4#32
  let v100 : BitVec 32 := Scalar.muli v99 c4_i32
  let v104 : BitVec 32 := Scalar.addi v100 c0_i32_98
  let v105 : Index := Scalar.indexCast v104
  let c0_101 : Index := 0#32
  ![0, 0, v105.toNat, 0]
def k0_off2_at (r : Fin 12) : BitVec 32 × BitVec 32 :=
  if r.val < 6 then
    if r.val < 3 then
      if r.val < 1 then
        (0#32, 0#32)
      else
        if r.val < 2 then
          (0#32, 1#32)
        else
          (0#32, 2#32)
    else
      if r.val < 4 then
        (0#32, 3#32)
      else
        if r.val < 5 then
          (7#32, 0#32)
        else
          (7#32, 1#32)
  else
    if r.val < 9 then
      if r.val < 7 then
        (7#32, 2#32)
      else
        if r.val < 8 then
          (7#32, 3#32)
        else
          (8#32, 0#32)
    else
      if r.val < 10 then
        (8#32, 1#32)
      else
        if r.val < 11 then
          (8#32, 2#32)
        else
          (8#32, 3#32)
def k0_off3 (d0 : Dev nD) (c0_i32_94 : BitVec 32) (c0_i32_154 : BitVec 32) : Fin 4 → Nat :=
  let c1 : Index := 1#32
  let c0_155 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v97 : BitVec 32 := Scalar.subi v2 c0_i32_94
  let c16_i32_95 : BitVec 32 := 16#32
  let v98 : BitVec 32 := Scalar.addi v97 c16_i32_95
  let c16_i32_96 : BitVec 32 := 16#32
  let v99 : BitVec 32 := Scalar.remsi v98 c16_i32_96
  let c4_i32 : BitVec 32 := 4#32
  let v100 : BitVec 32 := Scalar.muli v99 c4_i32
  let v232 : BitVec 32 := Scalar.addi v100 c0_i32_154
  let v233 : Index := Scalar.indexCast v232
  let c0_156 : Index := 0#32
  ![1, 0, v233.toNat, 0]
def k0_off3_at (r : Fin 12) : BitVec 32 × BitVec 32 :=
  if r.val < 6 then
    if r.val < 3 then
      if r.val < 1 then
        (0#32, 0#32)
      else
        if r.val < 2 then
          (0#32, 1#32)
        else
          (0#32, 2#32)
    else
      if r.val < 4 then
        (0#32, 3#32)
      else
        if r.val < 5 then
          (7#32, 0#32)
        else
          (7#32, 1#32)
  else
    if r.val < 9 then
      if r.val < 7 then
        (7#32, 2#32)
      else
        if r.val < 8 then
          (7#32, 3#32)
        else
          (8#32, 0#32)
    else
      if r.val < 10 then
        (8#32, 1#32)
      else
        if r.val < 11 then
          (8#32, 2#32)
        else
          (8#32, 3#32)
@[reducible] def k0_t1_loop : Scf.Loop 32 :=
  let c1_i32_296 : BitVec 32 := 1#32
  let c6_i32 : BitVec 32 := 6#32
  let v421 : BitVec 32 := Scalar.addi c1_i32_296 c6_i32
  let c1_i32_297 : BitVec 32 := 1#32
  ⟨c1_i32_296, v421, c1_i32_297⟩
def k0_off4 (k0_t1 : Fin k0_t1_loop.trips) : Fin 1 → Nat :=
  let c1_i32_296 : BitVec 32 := 1#32
  let c1_i32_297 : BitVec 32 := 1#32
  let arg23 : BitVec 32 := Scf.iv c1_i32_296 c1_i32_297 k0_t1
  ![arg23.toNat]
def k0_off5 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let c1_i32_771 : BitVec 32 := 1#32
  let v1288 : BitVec 32 := Scalar.addi arg23 c1_i32_771
  let c0_i32_777 : BitVec 32 := 0#32
  let c0_i32_778 : BitVec 32 := 0#32
  ![v1288.toNat, 0, 0]
def k0_off6 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let c0_i32_779 : BitVec 32 := 0#32
  let c0_i32_780 : BitVec 32 := 0#32
  ![arg23.toNat, 0, 0]
def k0_dev7 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_775 : BitVec 32 := 1#32
  let v1292 : BitVec 32 := Scalar.muli v7 c1_i32_775
  let v1293 : BitVec 32 := Scalar.addi c0_i32_776 v1292
  v1293.toNat
def k0_off7 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let c1_i32_772 : BitVec 32 := 1#32
  let v1289 : BitVec 32 := Scalar.addi arg23 c1_i32_772
  let c0_i32_783 : BitVec 32 := 0#32
  let c0_i32_784 : BitVec 32 := 0#32
  ![v1289.toNat, 0, 0]
def k0_off8 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let c0_i32_785 : BitVec 32 := 0#32
  let c0_i32_786 : BitVec 32 := 0#32
  ![arg23.toNat, 0, 0]
def k0_dev8 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_781 : BitVec 32 := 1#32
  let v1302 : BitVec 32 := Scalar.muli v7 c1_i32_781
  let v1303 : BitVec 32 := Scalar.addi c0_i32_782 v1302
  v1303.toNat
def k0_off9 (k0_t1 : Fin k0_t1_loop.trips) : Fin 1 → Nat :=
  let c1_i32_296 : BitVec 32 := 1#32
  let c1_i32_297 : BitVec 32 := 1#32
  let arg23 : BitVec 32 := Scf.iv c1_i32_296 c1_i32_297 k0_t1
  ![arg23.toNat]
def k0_off10 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let c1_i32_773 : BitVec 32 := 1#32
  let v1290 : BitVec 32 := Scalar.addi arg23 c1_i32_773
  let c0_i32_789 : BitVec 32 := 0#32
  let c0_i32_790 : BitVec 32 := 0#32
  ![v1290.toNat, 0, 0]
def k0_off11 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let c0_i32_791 : BitVec 32 := 0#32
  let c0_i32_792 : BitVec 32 := 0#32
  ![arg23.toNat, 0, 0]
def k0_dev9 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_787 : BitVec 32 := 1#32
  let v1312 : BitVec 32 := Scalar.muli v5 c1_i32_787
  let v1313 : BitVec 32 := Scalar.addi c0_i32_788 v1312
  v1313.toNat
def k0_off12 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let c1_i32_774 : BitVec 32 := 1#32
  let v1291 : BitVec 32 := Scalar.addi arg23 c1_i32_774
  let c0_i32_795 : BitVec 32 := 0#32
  let c0_i32_796 : BitVec 32 := 0#32
  ![v1291.toNat, 0, 0]
def k0_off13 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let c0_i32_797 : BitVec 32 := 0#32
  let c0_i32_798 : BitVec 32 := 0#32
  ![arg23.toNat, 0, 0]
def k0_dev10 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_793 : BitVec 32 := 1#32
  let v1322 : BitVec 32 := Scalar.muli v5 c1_i32_793
  let v1323 : BitVec 32 := Scalar.addi c0_i32_794 v1322
  v1323.toNat
def k0_off14 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let v1332 : Index := Scalar.indexCast arg23
  let c0_799 : Index := 0#32
  let c0_800 : Index := 0#32
  ![v1332.toNat, 0, 0]
def k0_off15 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let v1335 : Index := Scalar.indexCast arg23
  let c0_801 : Index := 0#32
  let c0_802 : Index := 0#32
  ![v1335.toNat, 0, 0]
def k0_off16 (d0 : Dev nD) (k0_t1 : Fin k0_t1_loop.trips) (c0_i32_807 : BitVec 32) : Fin 4 → Nat :=
  let c0_808 : Index := 0#32
  let c0_809 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_296 : BitVec 32 := 1#32
  let c1_i32_297 : BitVec 32 := 1#32
  let arg23 : BitVec 32 := Scf.iv c1_i32_296 c1_i32_297 k0_t1
  let v1338 : BitVec 32 := Scalar.subi v2 arg23
  let c16_i32_803 : BitVec 32 := 16#32
  let v1339 : BitVec 32 := Scalar.addi v1338 c16_i32_803
  let c16_i32_804 : BitVec 32 := 16#32
  let v1340 : BitVec 32 := Scalar.remsi v1339 c16_i32_804
  let c4_i32_805 : BitVec 32 := 4#32
  let v1341 : BitVec 32 := Scalar.muli v1340 c4_i32_805
  let v1345 : BitVec 32 := Scalar.addi v1341 c0_i32_807
  let v1346 : Index := Scalar.indexCast v1345
  let c0_810 : Index := 0#32
  ![0, 0, v1346.toNat, 0]
def k0_off17 (d0 : Dev nD) (k0_t1 : Fin k0_t1_loop.trips) (c0_i32_867 : BitVec 32) : Fin 4 → Nat :=
  let c1_868 : Index := 1#32
  let c0_869 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_296 : BitVec 32 := 1#32
  let c1_i32_297 : BitVec 32 := 1#32
  let arg23 : BitVec 32 := Scf.iv c1_i32_296 c1_i32_297 k0_t1
  let v1338 : BitVec 32 := Scalar.subi v2 arg23
  let c16_i32_803 : BitVec 32 := 16#32
  let v1339 : BitVec 32 := Scalar.addi v1338 c16_i32_803
  let c16_i32_804 : BitVec 32 := 16#32
  let v1340 : BitVec 32 := Scalar.remsi v1339 c16_i32_804
  let c4_i32_805 : BitVec 32 := 4#32
  let v1341 : BitVec 32 := Scalar.muli v1340 c4_i32_805
  let v1473 : BitVec 32 := Scalar.addi v1341 c0_i32_867
  let v1474 : Index := Scalar.indexCast v1473
  let c0_870 : Index := 0#32
  ![1, 0, v1474.toNat, 0]
def k0_off18 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let v1606 : Index := Scalar.indexCast arg23
  let c0_934 : Index := 0#32
  let c0_935 : Index := 0#32
  ![v1606.toNat, 0, 0]
def k0_off19 (k0_t1 : Fin k0_t1_loop.trips) : Fin 3 → Nat :=
  let c1_i32_296 : BitVec 32 := 1#32
  let c1_i32_297 : BitVec 32 := 1#32
  let arg23 : BitVec 32 := Scf.iv c1_i32_296 c1_i32_297 k0_t1
  let v1609 : Index := Scalar.indexCast arg23
  let c0_936 : Index := 0#32
  let c0_937 : Index := 0#32
  ![v1609.toNat, 0, 0]
def k0_off20 (d0 : Dev nD) (k0_t1 : Fin k0_t1_loop.trips) (c0_i32_941 : BitVec 32) : Fin 4 → Nat :=
  let c0_942 : Index := 0#32
  let c0_943 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_296 : BitVec 32 := 1#32
  let c1_i32_297 : BitVec 32 := 1#32
  let arg23 : BitVec 32 := Scf.iv c1_i32_296 c1_i32_297 k0_t1
  let v1612 : BitVec 32 := Scalar.addi v2 arg23
  let c16_i32_938 : BitVec 32 := 16#32
  let v1613 : BitVec 32 := Scalar.remsi v1612 c16_i32_938
  let c4_i32_939 : BitVec 32 := 4#32
  let v1614 : BitVec 32 := Scalar.muli v1613 c4_i32_939
  let v1618 : BitVec 32 := Scalar.addi v1614 c0_i32_941
  let v1619 : Index := Scalar.indexCast v1618
  let c0_944 : Index := 0#32
  ![0, 0, v1619.toNat, 0]
def k0_off21 (d0 : Dev nD) (k0_t1 : Fin k0_t1_loop.trips) (c0_i32_1001 : BitVec 32) : Fin 4 → Nat :=
  let c1_1002 : Index := 1#32
  let c0_1003 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_296 : BitVec 32 := 1#32
  let c1_i32_297 : BitVec 32 := 1#32
  let arg23 : BitVec 32 := Scf.iv c1_i32_296 c1_i32_297 k0_t1
  let v1612 : BitVec 32 := Scalar.addi v2 arg23
  let c16_i32_938 : BitVec 32 := 16#32
  let v1613 : BitVec 32 := Scalar.remsi v1612 c16_i32_938
  let c4_i32_939 : BitVec 32 := 4#32
  let v1614 : BitVec 32 := Scalar.muli v1613 c4_i32_939
  let v1746 : BitVec 32 := Scalar.addi v1614 c0_i32_1001
  let v1747 : Index := Scalar.indexCast v1746
  let c0_1004 : Index := 0#32
  ![1, 0, v1747.toNat, 0]
def k0_dev11 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_301 : BitVec 32 := 1#32
  let v422 : BitVec 32 := Scalar.muli v7 c1_i32_301
  let v423 : BitVec 32 := Scalar.addi c0_i32_302 v422
  v423.toNat
def k0_dev12 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_311 : BitVec 32 := 1#32
  let v432 : BitVec 32 := Scalar.muli v7 c1_i32_311
  let v433 : BitVec 32 := Scalar.addi c0_i32_312 v432
  v433.toNat
def k0_off22 (d0 : Dev nD) (c0_i32_464 : BitVec 32) : Fin 4 → Nat :=
  let c0_465 : Index := 0#32
  let c0_466 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_460 : BitVec 32 := 7#32
  let v718 : BitVec 32 := Scalar.addi v2 c7_i32_460
  let c16_i32_461 : BitVec 32 := 16#32
  let v719 : BitVec 32 := Scalar.remsi v718 c16_i32_461
  let c4_i32_462 : BitVec 32 := 4#32
  let v720 : BitVec 32 := Scalar.muli v719 c4_i32_462
  let v724 : BitVec 32 := Scalar.addi v720 c0_i32_464
  let v725 : Index := Scalar.indexCast v724
  let c0_467 : Index := 0#32
  ![0, 0, v725.toNat, 0]
def k0_off23 (d0 : Dev nD) (c0_i32_524 : BitVec 32) : Fin 4 → Nat :=
  let c1_525 : Index := 1#32
  let c0_526 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_460 : BitVec 32 := 7#32
  let v718 : BitVec 32 := Scalar.addi v2 c7_i32_460
  let c16_i32_461 : BitVec 32 := 16#32
  let v719 : BitVec 32 := Scalar.remsi v718 c16_i32_461
  let c4_i32_462 : BitVec 32 := 4#32
  let v720 : BitVec 32 := Scalar.muli v719 c4_i32_462
  let v852 : BitVec 32 := Scalar.addi v720 c0_i32_524
  let v853 : Index := Scalar.indexCast v852
  let c0_527 : Index := 0#32
  ![1, 0, v853.toNat, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32x128x512 : Shape := ⟨3, ![32, 128, 512]⟩
abbrev S512x4096 : Shape := ⟨2, ![512, 4096]⟩
abbrev S32x128x64x64 : Shape := ⟨4, ![32, 128, 64, 64]⟩
abbrev S4096x512 : Shape := ⟨2, ![4096, 512]⟩
abbrev S32x128x4096 : Shape := ⟨3, ![32, 128, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S32x64x128x128 : Shape := ⟨4, ![32, 64, 128, 128]⟩
abbrev S1x1x128x128 : Shape := ⟨4, ![1, 1, 128, 128]⟩
abbrev S32x64x128 : Shape := ⟨3, ![32, 64, 128]⟩
abbrev S32x64x128x1 : Shape := ⟨4, ![32, 64, 128, 1]⟩
abbrev S1x1x128x1 : Shape := ⟨4, ![1, 1, 128, 1]⟩
abbrev S32x64x64x128 : Shape := ⟨4, ![32, 64, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S32x128x512, .f32⟩
  | .hbm, ⟨1, _⟩ => ⟨S512x4096, .f32⟩
  | .hbm, ⟨2, _⟩ => ⟨S32x128x64x64, .f32⟩
  | .hbm, ⟨3, _⟩ => ⟨S32x128x64x64, .f32⟩
  | .hbm, ⟨4, _⟩ => ⟨S4096x512, .f32⟩
  | .hbm, ⟨5, _⟩ => ⟨S32x128x4096, .f32⟩
  | .hbm, ⟨6, _⟩ => ⟨S32x128x64x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S32x64x128x128, .f32⟩
  | .hbm, ⟨19, _⟩ => ⟨S_, .f32⟩
  | .hbm, ⟨20, _⟩ => ⟨S32x64x128x128, .f32⟩
  | .hbm, ⟨21, _⟩ => ⟨S32x64x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S32x64x128x128, .i1⟩
  | .hbm, ⟨26, _⟩ => ⟨S32x64x128x128, .f32⟩
  | .hbm, ⟨27, _⟩ => ⟨S32x64x128x128, .f32⟩
  | .hbm, ⟨28, _⟩ => ⟨S_, .f32⟩
  | .hbm, ⟨29, _⟩ => ⟨S32x64x128, .f32⟩
  | .hbm, ⟨30, _⟩ => ⟨S32x64x128x1, .f32⟩
  | .hbm, ⟨31, _⟩ => ⟨S32x64x128x128, .f32⟩
  | .hbm, ⟨32, _⟩ => ⟨S32x64x128x128, .f32⟩
  | .hbm, ⟨33, _⟩ => ⟨S32x64x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S32x64x128, .f32⟩
  | .hbm, ⟨39, _⟩ => ⟨S32x64x128x1, .f32⟩
  | .hbm, ⟨40, _⟩ => ⟨S_, .f32⟩
  | .hbm, ⟨41, _⟩ => ⟨S_, .f32⟩
  | .hbm, ⟨42, _⟩ => ⟨S32x64x128x1, .i1⟩
  | .hbm, ⟨43, _⟩ => ⟨S32x64x128x1, .f32⟩
  | .hbm, ⟨44, _⟩ => ⟨S32x64x128x1, .f32⟩
  | .hbm, ⟨45, _⟩ => ⟨S32x64x128x128, .f32⟩
  | .hbm, ⟨46, _⟩ => ⟨S32x64x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S32x64x128x128, .i1⟩
  | .hbm, ⟨51, _⟩ => ⟨S32x64x128x128, .f32⟩
  | .hbm, ⟨52, _⟩ => ⟨S32x64x128x128, .f32⟩
  | .hbm, ⟨53, _⟩ => ⟨S32x64x64x128, .f32⟩
  | .hbm, ⟨54, _⟩ => ⟨S32x128x64x64, .f32⟩
  | .hbm, ⟨55, _⟩ => ⟨S32x128x4096, .f32⟩
  | .hbm, ⟨56, _⟩ => ⟨S32x128x512, .f32⟩
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KernelIdeal.Protocol.lean ====
/-
# 01_k — the protocol between the devices

Sixteen devices stand in a ring. Each holds one block of `Wq` and one of `Wo`; the blocks travel around the ring in
both directions, one hop per step, and every device folds each block it sees into its own result.

There are four LANES of slots (`Fin 4`): lanes 0 and 1 carry `Wq` and `Wo` to the right (device `c` to `c + 1`), eight
hops, nine slots; lanes 2 and 3 carry them to the left, seven hops, eight slots. Hop `h` of a lane copies slot `h` of a
device into slot `h + 1` of the neighbour, crediting the sender's send semaphore `h` and the neighbour's receive
semaphore `h`. On device `c`, slot `s` of a rightward lane holds the block of device `c - s`, of a leftward lane the block of
device `c + s` (`org`).

* The barrier semaphore of device `c`: two units, one from each neighbour; the right neighbour's hands over the right
  neighbour's slots `1 …` of the rightward lanes (whatever they hold), the left neighbour's those of the leftward lanes.
* A send semaphore: one landing, handing back the half share of the source slot lent to the copy, with its contents.
* A receive semaphore: one landing, handing over slot `h + 1` holding the block of the device it came from.
* The two semaphores of the local copies of `K` and `V`: the copied part, and the lent source back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging copies' rounds and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The right neighbour. -/
def nxt (c : Dev nD) : Dev nD := ⟨(c.val + 1) % 16, Nat.mod_lt _ (by decide)⟩
set_option backward.proofsInPublic true in
/-- The left neighbour. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

def ringE : Dev nD ≃ Dev nD := ⟨nxt, prv, prv_nxt, nxt_prv⟩

abbrev Lane : Type := Fin 4

/-- Hops of a lane. -/
@[reducible] def hops : Lane → ℕ | 0 => 8 | 1 => 8 | 2 => 7 | 3 => 7
/-- Where a lane's copies go. -/
def up : Lane → Dev nD → Dev nD | 0 => nxt | 1 => nxt | 2 => prv | 3 => prv
/-- Where a lane's copies come from. -/
def dn : Lane → Dev nD → Dev nD | 0 => prv | 1 => prv | 2 => nxt | 3 => nxt

theorem up_dn (l : Lane) (c : Dev nD) : up l (dn l c) = c := by
  fin_cases l
  exacts [nxt_prv c, nxt_prv c, prv_nxt c, prv_nxt c]
theorem dn_up (l : Lane) (c : Dev nD) : dn l (up l c) = c := by
  fin_cases l
  exacts [prv_nxt c, prv_nxt c, nxt_prv c, nxt_prv c]

def laneE (l : Lane) : Dev nD ≃ Dev nD := ⟨up l, dn l, dn_up l, up_dn l⟩

set_option backward.proofsInPublic true in
/-- `s` devices to the left. -/
def back (s : ℕ) (c : Dev nD) : Dev nD := ⟨(c.val + (16 - s % 16)) % 16, Nat.mod_lt _ (by decide)⟩
set_option backward.proofsInPublic true in
/-- `s` devices to the right. -/
def ahead (s : ℕ) (c : Dev nD) : Dev nD := ⟨(c.val + s) % 16, Nat.mod_lt _ (by decide)⟩

/-- The device whose block slot `s` of a lane holds, on device `c`. -/
def org : Lane → ℕ → Dev nD → Dev nD | 0 => back | 1 => back | 2 => ahead | 3 => ahead

theorem back_succ (s : ℕ) (c : Dev nD) : back (s + 1) (nxt c) = back s c := by
  apply Fin.ext; show ((c.val + 1) % 16 + (16 - (s + 1) % 16)) % 16 = (c.val + (16 - s % 16)) % 16; omega
theorem ahead_succ (s : ℕ) (c : Dev nD) : ahead (s + 1) (prv c) = ahead s c := by
  apply Fin.ext; show ((c.val + 15) % 16 + (s + 1)) % 16 = (c.val + s) % 16; omega
theorem org_succ (l : Lane) (s : ℕ) (c : Dev nD) : org l (s + 1) (up l c) = org l s c := by
  fin_cases l
  exacts [back_succ s c, back_succ s c, ahead_succ s c, ahead_succ s c]
theorem org_zero (l : Lane) (c : Dev nD) : org l 0 c = c := by
  have hb : back 0 c = c := Fin.ext (by have := c.isLt; change c.val < 16 at this; show (c.val + (16 - 0 % 16)) % 16 = c.val; omega)
  have ha : ahead 0 c = c := Fin.ext (by have := c.isLt; change c.val < 16 at this; show (c.val + 0) % 16 = c.val; omega)
  fin_cases l
  exacts [hb, hb, ha, ha]

/-! ## Slots and semaphores of a lane -/

@[reducible] def sh1 : Lane → Shape | 0 => S1x512x256 | 1 => S1x256x512 | 2 => S1x512x256 | 3 => S1x256x512
@[reducible] def sh2 : Lane → Shape | 0 => S512x256 | 1 => S256x512 | 2 => S512x256 | 3 => S256x512

theorem squeezes (l : Lane) : (sh1 l).Squeezes (sh2 l) := match l with
  | 0 => squeezes_S1x512x256_S512x256
  | 1 => squeezes_S1x256x512_S256x512
  | 2 => squeezes_S1x512x256_S512x256
  | 3 => squeezes_S1x256x512_S256x512

theorem slot_inb_q9 (s : Fin 9) : ∀ a, (![s.val, 0, 0] : Fin 3 → ℕ) a + S1x512x256.size a ≤ S9x512x256.size a := by revert s; decide
theorem slot_inb_o9 (s : Fin 9) : ∀ a, (![s.val, 0, 0] : Fin 3 → ℕ) a + S1x256x512.size a ≤ S9x256x512.size a := by revert s; decide
theorem slot_inb_q8 (s : Fin 8) : ∀ a, (![s.val, 0, 0] : Fin 3 → ℕ) a + S1x512x256.size a ≤ S8x512x256.size a := by revert s; decide
theorem slot_inb_o8 (s : Fin 8) : ∀ a, (![s.val, 0, 0] : Fin 3 → ℕ) a + S1x256x512.size a ≤ S8x256x512.size a := by revert s; decide
theorem sem_inb8 (h : Fin 8) : ∀ a, (![h.val] : Fin 1 → ℕ) a + S1.size a ≤ S8.size a := by revert h; decide
theorem sem_inb7 (h : Fin 7) : ∀ a, (![h.val] : Fin 1 → ℕ) a + S1.size a ≤ S7.size a := by revert h; decide
theorem sem_inb2 (h : Fin 2) : ∀ a, (![h.val] : Fin 1 → ℕ) a + S1.size a ≤ S2.size a := by revert h; decide

/-- Slot `s` of a lane, as the kernel slices it. -/
def slotM : (l : Lane) → Fin (hops l + 1) → Memref sig .tc .vmem (sh1 l) .bf16
  | 0, s => (Memref.whole cc0_scratch0).slice (Rect.unit (s := S9x512x256) ![s.val, 0, 0] S1x512x256.size (slot_inb_q9 s)) (fun _ => rfl)
  | 1, s => (Memref.whole cc0_scratch1).slice (Rect.unit (s := S9x256x512) ![s.val, 0, 0] S1x256x512.size (slot_inb_o9 s)) (fun _ => rfl)
  | 2, s => (Memref.whole cc0_scratch2).slice (Rect.unit (s := S8x512x256) ![s.val, 0, 0] S1x512x256.size (slot_inb_q8 s)) (fun _ => rfl)
  | 3, s => (Memref.whole cc0_scratch3).slice (Rect.unit (s := S8x256x512) ![s.val, 0, 0] S1x256x512.size (slot_inb_o8 s)) (fun _ => rfl)

/-- The slot as a copy's end: its unit axis dropped. -/
def flatM (l : Lane) (s : Fin (hops l + 1)) : Memref sig .tc .vmem (sh2 l) .bf16 := (slotM l s).squeeze (sh2 l) (squeezes l)

/-- The credit of a landing under a memref. -/
def cr {sp : Space} {s : Shape} {e : EltTy} (M : Memref sig .tc sp s e) : ℕ := M.view.dmaCredit
theorem cr_pos {sp : Space} {s : Shape} {e : EltTy} (M : Memref sig .tc sp s e) (h : 0 < s.numel) : 0 < cr M :=
  M.view.dmaCredit_pos h

/-- The credit of one hop. -/
def NL (l : Lane) : ℕ := cr (flatM l 0)

theorem NL_pos (l : Lane) : 0 < NL l := cr_pos (flatM l 0) (by fin_cases l <;> decide)

theorem credit_flat (l : Lane) (s : Fin (hops l + 1)) : cr (flatM l s) = NL l := by
  fin_cases l <;> rfl

def sem8 (a : DmaSems sig S8) (h : Fin 8) : DmaSem sig :=
  ((a.slice (Rect.unit (s := S8) ![h.val] S1.size (sem_inb8 h))).squeeze S_ squeezes_S1_S_).sem
def sem7 (a : DmaSems sig S7) (h : Fin 7) : DmaSem sig :=
  ((a.slice (Rect.unit (s := S7) ![h.val] S1.size (sem_inb7 h))).squeeze S_ squeezes_S1_S_).sem

/-- The send and the receive semaphore of hop `h`. -/
def sendS : (l : Lane) → Fin (hops l) → DmaSem sig
  | 0, h => sem8 cc0_scratch8 h | 1, h => sem8 cc0_scratch10 h | 2, h => sem7 cc0_scratch12 h | 3, h => sem7 cc0_scratch14 h
def recvS : (l : Lane) → Fin (hops l) → DmaSem sig
  | 0, h => sem8 cc0_scratch9 h | 1, h => sem8 cc0_scratch11 h | 2, h => sem7 cc0_scratch13 h | 3, h => sem7 cc0_scratch15 h
/-- The semaphores of the copies of `K` and `V`. -/
def kvS (i : Fin 2) : DmaSem sig :=
  ((cc0_scratch16.slice (Rect.unit (s := S2) ![i.val] S1.size (sem_inb2 i))).squeeze S_ squeezes_S1_S_).sem
/-- The runtime's barrier semaphore. -/
def barS : Sem sig := (SemArray.scalar (sig.barrier 0 rfl) : Sems sig S_).sem

abbrev Hop : Type := (l : Lane) × Fin (hops l)

/-- The cells a device waits at: its barrier, its two local copies, its sends, its receives. -/
abbrev CK : Type := Unit ⊕ (Fin 2 ⊕ (Hop ⊕ Hop))

instance hop_decEq : DecidableEq Hop := inferInstance
instance ck_decEq : DecidableEq CK := inferInstance
instance devck_decEq : DecidableEq (Dev nD × CK) := inferInstance

@[match_pattern] abbrev CK.bar : CK := .inl ()
@[match_pattern] abbrev CK.kv (i : Fin 2) : CK := .inr (.inl i)
@[match_pattern] abbrev CK.snd (x : Hop) : CK := .inr (.inr (.inl x))
@[match_pattern] abbrev CK.rcv (x : Hop) : CK := .inr (.inr (.inr x))

def csem : CK → SemLoc sig
  | .inl _ => .reg barS
  | .inr (.inl i) => .dma (kvS i)
  | .inr (.inr (.inl x)) => .dma (sendS x.1 x.2)
  | .inr (.inr (.inr x)) => .dma (recvS x.1 x.2)

def sendBase : Lane → ℕ | 0 => 4 | 1 => 20 | 2 => 36 | 3 => 50
def recvBase : Lane → ℕ | 0 => 12 | 1 => 28 | 2 => 43 | 3 => 57

theorem sendS_val (l : Lane) (h : Fin (hops l)) : (sendS l h).val = sendBase l + h.val := by
  fin_cases l <;> fin_cases h <;> rfl
theorem recvS_val (l : Lane) (h : Fin (hops l)) : (recvS l h).val = recvBase l + h.val := by
  fin_cases l <;> fin_cases h <;> rfl
theorem kvS_val (i : Fin 2) : (kvS i).val = 64 + i.val := by fin_cases i <;> rfl

/-- A cell's number among the device's DMA semaphores; the barrier's beyond them all. -/
def cnum : CK → ℕ
  | .inl _ => 66
  | .inr (.inl i) => 64 + i.val
  | .inr (.inr (.inl x)) => sendBase x.1 + x.2.val
  | .inr (.inr (.inr x)) => recvBase x.1 + x.2.val

theorem cnum_inj : Function.Injective cnum := by
  decide +kernel

def semNum : SemLoc sig → ℕ
  | .dma q => q.val
  | _ => 66

theorem semNum_csem (k : CK) : semNum (csem k) = cnum k := by
  rcases k with _ | i | x | x
  · rfl
  · exact kvS_val i
  · exact sendS_val x.1 x.2
  · exact recvS_val x.1 x.2

theorem csem_inj : Function.Injective csem := fun a b h =>
  cnum_inj (by rw [← semNum_csem, ← semNum_csem, h])

/-- Which cell a semaphore is, if any. -/
def role (sm : SemLoc sig) : Option CK := Function.partialInv csem sm

theorem role_csem (k : CK) : role (csem k) = some k := Function.partialInv_left csem_inj k

/-- Cell `k` of device `c`. -/
abbrev kcell (c : Dev nD) (k : CK) : GSem nD τ sig := ((c : Thread nD τ), csem k)

end Cert.KernelIdeal.Ring
-- ==== Proof.KernelIdeal.Schedule.lean ====
/-
# 01_k — contents, assertions on slots, the schedule of the cells and its tables
-/
module

public import proofs.«01_k».proof.Proof.KernelIdeal.Protocol
public import Idealize.ShloMosaic.Lib.ViewIndex

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s staged input, and its own blocks of `Wq` and `Wo`. -/
def xA (c : Dev nD) : Vec F S2x128x512 .f32 :=
  (win0_0.blk (0 : Fin 1)).view.read (Elt F) (m ((c : Thread nD τ).loc main_arg0))
def wqA (c : Dev nD) : Vec F S512x256 .f32 :=
  (win0_1.blk (0 : Fin 1)).view.read (Elt F) (m ((c : Thread nD τ).loc main_arg1))
def woA (c : Dev nD) : Vec F S256x512 .f32 :=
  (win0_2.blk (0 : Fin 1)).view.read (Elt F) (m ((c : Thread nD τ).loc main_arg4))

/-- The block that device `d` puts on a lane: its `Wq` or its `Wo`, in bf16. -/
def blk : (l : Lane) → Dev nD → Vec F (sh1 l) .bf16
  | 0, d => k0_pay50 (wqA m d)
  | 1, d => k0_pay51 (woA m d)
  | 2, d => k0_pay50 (wqA m d)
  | 3, d => k0_pay51 (woA m d)

/-- The source (device `c`'s part of `K`, of `V`) and the destination of the local copies. -/
def kvSrc : Fin 2 → Dev nD → Memref sig .tc .hbm S2x128x64x64 .f32
  | 0, c => (Memref.whole main_arg2).slice (Rect.unit (s := S32x128x64x64) (k0_off1 c) S2x128x64x64.size (k0_off1_inb c)) (fun _ => rfl)
  | 1, c => (Memref.whole main_arg3).slice (Rect.unit (s := S32x128x64x64) (k0_off1 c) S2x128x64x64.size (k0_off1_inb c)) (fun _ => rfl)
def kvDst : Fin 2 → Memref sig .tc .vmem S2x128x64x64 .f32
  | 0 => Memref.whole cc0_scratch4
  | 1 => Memref.whole cc0_scratch5
def kvB (i : Fin 2) (c : Dev nD) : Vec F S2x128x64x64 .f32 :=
  (kvSrc i c).view.read (Elt F) (m ((kvSrc i c).view.loc (c : Thread nD τ)))
/-- The credit of a local copy. -/
def NKV (i : Fin 2) : ℕ := cr (kvDst i)
theorem NKV_pos (i : Fin 2) : 0 < NKV i := cr_pos (kvDst i) (by decide +kernel)

/-! ## Assertions on a memref -/

section Holds
variable {sp : Space} {s : Shape} {e : EltTy}

/-- A share `q` of the elements under a memref on device `c`, which read `w`. -/
def Holds (M : Memref sig .tc sp s e) (c : Dev nD) (q : PosShare TreeShare) (w : s.Idx → Elt F e) : sProp 𝕄 :=
  iprop(∃ f : Buf (Elt F) (M.view.loc (c : Thread nD τ)), ⌜M.view.read (Elt F) f = w⌝
    ∗ (M.view.loc (c : Thread nD τ) ↦[M.view.set]{q} f))

/-- The elements under a memref on device `c`, whatever they hold. -/
def Owns (M : Memref sig .tc sp s e) (c : Dev nD) : sProp 𝕄 :=
  iprop(∃ f : Buf (Elt F) (M.view.loc (c : Thread nD τ)), (M.view.loc (c : Thread nD τ) ↦[M.view.set]{fullShare} f))

omit [FloatOps F] in
instance holds_storable (M : Memref sig .tc sp s e) (c : Dev nD) (q) (w : s.Idx → Elt F e) :
    BI.Storable (upEmb : UEmb _ 𝕄) (Holds M c q w) := by unfold Holds; infer_instance
omit [FloatOps F] in
instance owns_storable (M : Memref sig .tc sp s e) (c : Dev nD) :
    BI.Storable (upEmb : UEmb _ 𝕄) (Owns (F := F) M c) := by unfold Owns; infer_instance

omit [FloatOps F] in
theorem holds_owns (M : Memref sig .tc sp s e) (c : Dev nD) (w : s.Idx → Elt F e) :
    Holds M c fullShare w ⊢ (Owns M c : sProp 𝕄) := by
  unfold Holds Owns
  iintro ⟨%f, -, H⟩
  iexists f; iexact H

omit [FloatOps F] in
/-- A full share in two halves. -/
theorem holds_halves (M : Memref sig .tc sp s e) (c : Dev nD) (w : s.Idx → Elt F e) :
    Holds M c fullShare w ⊢ (iprop(Holds M c fullShare.left w ∗ Holds M c fullShare.right w) : sProp 𝕄) := by
  unfold Holds
  iintro ⟨%f, %hf, H⟩
  ihave H2 := (pointsTo_share (PosShare.mem_left_op_right fullShare)).1 $$ H
  icases H2 with ⟨HL, HR⟩
  isplitl [HL]
  · iexists f; isplitr [HL]
    · ipureintro; exact hf
    · iexact HL
  · iexists f; isplitr [HR]
    · ipureintro; exact hf
    · iexact HR

omit [FloatOps F] in
/-- Two halves that read alike make a full share. -/
theorem holds_join (M : Memref sig .tc sp s e) (c : Dev nD) (w : s.Idx → Elt F e) :
    iprop(Holds M c fullShare.left w ∗ Holds M c fullShare.right w) ⊢ (Holds M c fullShare w : sProp 𝕄) := by
  unfold Holds
  iintro ⟨⟨%f, %hf, HL⟩, ⟨%g, %hg, HR⟩⟩
  iexists f
  isplitr [HL HR]
  · ipureintro; exact hf
  ihave HR' := (Entails.of_eq (pointsTo_congr (f := g) (g := f) (q := fullShare.right) fun i hi => by
    obtain ⟨x, -, rfl⟩ := Finset.mem_map.mp hi
    exact View.eq_of_read_eq (congrFun (hg.trans hf.symm) x))) $$ HR
  iapply (pointsTo_share (PosShare.mem_left_op_right fullShare)).2 $$ [HL HR']
  isplitl [HL] <;> iassumption

end Holds

/-- The slots `1 …` of a lane on device `c`, whatever they hold. -/
def gather (l : Lane) (c : Dev nD) : sProp 𝕄 := bigSep Finset.univ fun h : Fin (hops l) => Owns (slotM l h.succ) c

/-! ## The schedule -/

/-- What a device's neighbour hands it with its signal. -/
def barPay (c : Dev nD) (d : Bool) : sProp 𝕄 :=
  if d then iprop(gather 0 (nxt c) ∗ gather 1 (nxt c)) else iprop(gather 2 (prv c) ∗ gather 3 (prv c))
def kvPay (i : Fin 2) (c : Dev nD) : sProp 𝕄 :=
  iprop(Holds (kvDst i) c fullShare (kvB m i c)
    ∗ ((kvSrc i c).view.loc (c : Thread nD τ) ↦[(kvSrc i c).view.set]{fullShare} m ((kvSrc i c).view.loc (c : Thread nD τ))))
def sndPay (l : Lane) (h : Fin (hops l)) (c : Dev nD) : sProp 𝕄 := Holds (slotM l h.castSucc) c fullShare.right (blk m l (org l h.val c))
def rcvPay (l : Lane) (h : Fin (hops l)) (c : Dev nD) : sProp 𝕄 := Holds (slotM l h.succ) c fullShare (blk m l (org l (h.val + 1) c))

def pay : CK → Dev nD → Bool → sProp 𝕄
  | .inl _, c, d => barPay c d
  | .inr (.inl i), c, _ => kvPay m i c
  | .inr (.inr (.inl x)), c, _ => sndPay m x.1 x.2 c
  | .inr (.inr (.inr x)), c, _ => rcvPay m x.1 x.2 c
def amt : CK → ℕ
  | .inl _ => 1
  | .inr (.inl i) => NKV i
  | .inr (.inr (.inl x)) => NL x.1
  | .inr (.inr (.inr x)) => NL x.1
def dut : CK → Finset Bool
  | .inl _ => Finset.univ
  | .inr _ => {false}

theorem amt_pos (k : CK) : 0 < amt k := by
  rcases k with _ | i | x | x
  exacts [Nat.one_pos, NKV_pos i, NL_pos x.1, NL_pos x.1]

omit [FloatOps F] in
instance pay_storable [FloatOps F] (k : CK) (c : Dev nD) (d : Bool) : BI.Storable (upEmb : UEmb _ 𝕄) (pay m k c d) := by
  rcases k with _ | i | x | x
  · show BI.Storable _ (barPay c d)
    unfold barPay gather
    split <;> infer_instance
  · show BI.Storable _ (kvPay m i c)
    unfold kvPay; infer_instance
  · show BI.Storable _ (sndPay m x.1 x.2 c)
    unfold sndPay; infer_instance
  · show BI.Storable _ (rcvPay m x.1 x.2 c)
    unfold rcvPay; infer_instance

/-- One round: every cell's duties at round 0. -/
def ringRd : Rounds.Schedule (GSem nD τ sig) Bool 𝕄 where
  duties g r := if r = 0 then (match role g.2 with | some k => dut k | none => ∅) else ∅
  unitless _ := False
  amount g _ _ := match role g.2 with | some k => amt k | none => 1
  payload g _ d := match role g.2 with | some k => pay m k g.1.1 d | none => iprop(emp)
  amount_pos g _ _ _ := by
    cases h : role g.2 with
    | none => exact Nat.one_pos
    | some k => exact amt_pos k

instance ringRd_payload_storable (g : GSem nD τ sig) (r : ℕ) (d : Bool) :
    BI.Storable (upEmb : UEmb _ 𝕄) ((ringRd (F := F) m).payload g r d) := by
  show BI.Storable upEmb (match role g.2 with | some k => pay m k g.1.1 d | none => iprop(emp))
  split <;> infer_instance

section Tables
variable (c : Dev nD) (k : CK)

theorem duties_k : (ringRd (F := F) m).duties (kcell c k) 0 = dut k := by
  dsimp only [ringRd, kcell]; rw [if_pos rfl, role_csem]
theorem duties_later (g : GSem nD τ sig) : ∀ r, 1 ≤ r → (ringRd (F := F) m).duties g r = ∅ :=
  fun r hr => by dsimp only [ringRd]; rw [if_neg fun h => by omega]
theorem amount_k (d : Bool) : (ringRd (F := F) m).amount (kcell c k) 0 d = amt k := by
  dsimp only [ringRd, kcell]; rw [role_csem]
theorem payload_k (d : Bool) : (ringRd (F := F) m).payload (kcell c k) 0 d = pay m k c d := by
  dsimp only [ringRd, kcell]; rw [role_csem]

theorem mem_dut (h : dut k = {false}) : false ∈ (ringRd (F := F) m).duties (kcell c k) 0 := by
  rw [duties_k, h]; exact Finset.mem_singleton_self _

theorem expect_one (h : dut k = {false}) : (ringRd (F := F) m).expect (kcell c k) 0 = amt k := by
  unfold Schedule.expect Schedule.amountOf; rw [duties_k, h, Finset.sum_singleton, amount_k]
theorem expect_bar : (ringRd (F := F) m).expect (kcell c CK.bar) 0 = 2 := by
  unfold Schedule.expect Schedule.amountOf
  rw [duties_k, Finset.sum_congr rfl fun d _ => amount_k m c CK.bar d]
  rfl
theorem rest_one (h : dut k = {false}) :
    bigSep ((ringRd (F := F) m).duties (kcell c k) 0 \ ∅) (fun d => (ringRd (F := F) m).payload (kcell c k) 0 d) = pay m k c false := by
  rw [Finset.sdiff_empty, duties_k, h, bigSep_singleton, payload_k]
theorem rest_bar :
    bigSep ((ringRd (F := F) m).duties (kcell c CK.bar) 0 \ ∅) (fun d => (ringRd (F := F) m).payload (kcell c CK.bar) 0 d)
      = iprop((gather 2 (prv c) ∗ gather 3 (prv c)) ∗ (gather 0 (nxt c) ∗ gather 1 (nxt c))) := by
  rw [Finset.sdiff_empty, duties_k, show dut CK.bar = Finset.univ from rfl, bigSep_univ_eq_bigSepL [false, true] (by decide) (by decide), bigSepL_cons_cons, bigSepL_singleton,
    payload_k, payload_k]
  rfl

end Tables

/-! ## What each device owes at launch; the levels -/

/-- The credit device `c` owes its neighbour for a lane's hops `k …`. -/
def owedL (l : Lane) (c : Dev nD) (k : ℕ) : CellTallies nD τ sig Unit :=
  ∑ h : Fin (hops l) with k ≤ h.val, tallyAt (kcell (up l c) (CK.rcv ⟨l, h⟩)) () (NL l)

/-- One hop's credit off what is owed for the hops from it on. -/
theorem owedL_step (l : Lane) (c : Dev nD) (h : Fin (hops l)) :
    owedL l c h.val = owedL l c (h.val + 1) + tallyAt (kcell (up l c) (CK.rcv ⟨l, h⟩)) () (NL l) := by
  unfold owedL
  rw [show (Finset.univ.filter fun i : Fin (hops l) => h.val ≤ i.val) = insert h (Finset.univ.filter fun i : Fin (hops l) => h.val + 1 ≤ i.val) from ?_,
    Finset.sum_insert (by simp), add_comm]
  ext i
  simp only [Finset.mem_filter, Finset.mem_univ, true_and, Finset.mem_insert, Fin.ext_iff]
  omega

theorem owedL_end (l : Lane) (c : Dev nD) : owedL l c (hops l) = 0 := by
  unfold owedL
  rw [Finset.sum_filter]
  exact Finset.sum_eq_zero fun h _ => if_neg (by have := h.isLt; omega)

/-- What is owed with the hops from `k l` on still to make in lane `l`. -/
def owedR (c : Dev nD) (k0 k1 k2 k3 : ℕ) : CellTallies nD τ sig Unit :=
  owedL 0 c k0 + owedL 1 c k1 + owedL 2 c k2 + owedL 3 c k3

/-- At launch: every hop, and a unit to each neighbour's barrier. -/
def O₀ (c : Dev nD) : CellTallies nD τ sig Unit :=
  owedR c 0 0 0 0 + tallyAt (kcell (nxt c) CK.bar) () 1 + tallyAt (kcell (prv c) CK.bar) () 1

def L (g : GSem nD τ sig) : Finset Unit := if g.1.2 = .tc then {()} else ∅
def lvK : CK → ℕ
  | .inl _ => 1
  | .inr (.inl _) => 0
  | .inr (.inr (.inl _)) => 0
  | .inr (.inr (.inr x)) => x.2.val + 2
/-- Sends, local copies and staging at 0, barriers at 1, the landing of hop `h` at `h + 2`. -/
def lv (g : GSem nD τ sig) (_ : Unit) : ℕ := match role g.2 with | some k => lvK k | none => 0

theorem lv_k (c : Dev nD) (k : CK) (u : Unit) : lv (kcell c k) u = lvK k := by
  unfold lv; rw [show (kcell c k).2 = csem k from rfl, role_csem]
theorem L_of_ne (g : GSem nD τ sig) (h : g.1.2 ≠ .tc) : L g = ∅ := if_neg h
theorem L_tc (c : Dev nD) (sm : SemLoc sig) : L ((c : Thread nD τ), sm) = {()} := if_pos rfl

theorem owedL_pos {l : Lane} {c : Dev nD} {k : ℕ} {g : GSem nD τ sig} {u : Unit} (h : 0 < owedL l c k g u) :
    ∃ i : Fin (hops l), k ≤ i.val ∧ g = kcell (up l c) (CK.rcv ⟨l, i⟩) := by
  unfold owedL at h
  obtain ⟨i, hi, hp⟩ := Pipeline.sum_pos_exists h
  exact ⟨i, (Finset.mem_filter.mp hi).2, (Pipeline.tallyAt_pos hp).1⟩

theorem owedR_pos {c : Dev nD} {k0 k1 k2 k3 k : ℕ} (h0 : k ≤ k0) (h1 : k ≤ k1) (h2 : k ≤ k2) (h3 : k ≤ k3)
    {g : GSem nD τ sig} {u : Unit} (h : 0 < owedR c k0 k1 k2 k3 g u) :
    ∃ (d : Dev nD) (x : Hop), k ≤ x.2.val ∧ g = kcell d (CK.rcv x) := by
  unfold owedR at h
  rcases Pipeline.add_pos_cases h with h | h
  · rcases Pipeline.add_pos_cases h with h | h
    · rcases Pipeline.add_pos_cases h with h | h
      · obtain ⟨i, hi, e⟩ := owedL_pos h; exact ⟨_, ⟨0, i⟩, h0.trans hi, e⟩
      · obtain ⟨i, hi, e⟩ := owedL_pos h; exact ⟨_, ⟨1, i⟩, h1.trans hi, e⟩
    · obtain ⟨i, hi, e⟩ := owedL_pos h; exact ⟨_, ⟨2, i⟩, h2.trans hi, e⟩
  · obtain ⟨i, hi, e⟩ := owedL_pos h; exact ⟨_, ⟨3, i⟩, h3.trans hi, e⟩

omit [FloatOps F] in
/-- With the hops from `k` on still owed, a device may wait at any cell below their level. -/
theorem mayWait_owedR (c : Dev nD) (sm : SemLoc sig) {k0 k1 k2 k3 k : ℕ} (h0 : k ≤ k0) (h1 : k ≤ k1) (h2 : k ≤ k2) (h3 : k ≤ k3)
    (hlv : lv ((c : Thread nD τ), sm) () < k + 2) :
    (levAts L lv : sProp 𝕄) ⊢ MayWait (c : Thread nD τ) sm () (owedR c k0 k1 k2 k3) := by
  refine Pipeline.mayWait_of_levAts (by rw [L_tc]; exact Finset.mem_singleton_self _) fun g i hg => ?_
  obtain ⟨d, x, hx, rfl⟩ := owedR_pos h0 h1 h2 h3 hg
  refine ⟨by rw [L_tc]; exact Finset.mem_singleton_self _, ?_⟩
  rw [lv_k]
  show _ < x.2.val + 2
  omega

omit [FloatOps F] in
/-- Staging waits, at launch or owing nothing. -/
theorem mayWait_stage (c : Dev nD) (sm : SemLoc sig) (hlv : lv ((c : Thread nD τ), sm) () = 0)
    (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g i hg => ?_
    rw [hlv]
    unfold O₀ at hg
    rcases Pipeline.add_pos_cases hg with hg | hg
    · rcases Pipeline.add_pos_cases hg with hg | hg
      · obtain ⟨d, x, -, rfl⟩ := owedR_pos le_rfl le_rfl le_rfl le_rfl hg
        exact ⟨by rw [L_tc]; exact Finset.mem_singleton_self _, by rw [lv_k]; exact Nat.succ_pos _⟩
      · rw [(Pipeline.tallyAt_pos hg).1]
        exact ⟨by rw [L_tc]; exact Finset.mem_singleton_self _, by rw [lv_k]; exact Nat.one_pos⟩
    · rw [(Pipeline.tallyAt_pos hg).1]
      exact ⟨by rw [L_tc]; exact Finset.mem_singleton_self _, by rw [lv_k]; exact Nat.one_pos⟩
  · rw [MayWait_zero]; iintro -; iempintro

end Cert.KernelIdeal.Ring
-- ==== Proof.KernelIdeal.Steps.lean ====
/-
# 01_k — one step of the kernel at a time: loads and stores under a memref, a hop's send and its two waits
-/
module

public import proofs.«01_k».proof.Proof.KernelIdeal.Schedule

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The weakest precondition of a program on device `c`'s TensorCore. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem wpc_ret {α : Type} (c : Dev nD) (a : α) (Q : α → sProp 𝕄) : Q a ⊢ wpc c (.ret a) Q := le_wp_ret _ _ _ a Q

/-! ## Loads and stores -/

section Access
variable {cs : CoreSpace} {s : Shape} {e : EltTy} {α : Type} (c : Dev nD)

/-- A load of a slice that reads `w`. -/
theorem wp_load_slice {M : Memref sig .tc cs s e} {r : Rect s} {hr : ∀ a, r.stride a = 1} {hl : M.view.LoadsAt r.toLoadRect}
    {k : (r.shape.Idx → Elt F e) → Prog (TpuEff nD τ sig (Elt F) Λ₀ .tc) α} {Q : α → sProp 𝕄} {q : PosShare TreeShare} {w : r.shape.Idx → Elt F e} :
    Holds (M.slice r hr) c q w ⊢ iprop((Holds (M.slice r hr) c q w -∗ wpc c (k w) Q) -∗ wpc c (.op (.load M r.toLoadRect hl) k) Q) := by
  unfold Holds
  iintro ⟨%f, %hf, H⟩ Hk
  iapply (wp_load_rect 𝒱₀ (c : Thread nD τ) none Set.univ (m := M) (r := r) (f := f) (q := q) (S := (M.slice r hr).view.set) (Finset.Subset.refl _)) $$ H
  iintro H
  rw [show (M.access r).read (Elt F) f = w from hf]
  iapply Hk
  iexists f
  isplitr [H]
  · ipureintro; exact hf
  · iexact H

/-- A load of a slice with unknown contents. -/
theorem wp_load_owns {M : Memref sig .tc cs s e} {r : Rect s} {hr : ∀ a, r.stride a = 1} {hl : M.view.LoadsAt r.toLoadRect}
    {k : (r.shape.Idx → Elt F e) → Prog (TpuEff nD τ sig (Elt F) Λ₀ .tc) α} {Q : α → sProp 𝕄} :
    Owns (M.slice r hr) c ⊢ iprop((∀ w, Owns (M.slice r hr) c -∗ wpc c (k w) Q) -∗ wpc c (.op (.load M r.toLoadRect hl) k) Q) := by
  unfold Owns
  iintro ⟨%f, H⟩ Hk
  iapply (wp_load_rect 𝒱₀ (c : Thread nD τ) none Set.univ (m := M) (r := r) (f := f) (q := fullShare) (S := (M.slice r hr).view.set) (Finset.Subset.refl _)) $$ H
  iintro H
  iapply Hk
  iexists f
  iexact H

/-- A store over a slice. -/
theorem wp_store_slice {M : Memref sig .tc cs s e} {r : Rect s} {hr : ∀ a, r.stride a = 1} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    Owns (M.slice r hr) c ⊢ iprop((Holds (M.slice r hr) c fullShare w -∗ wpc c (k ⟨⟩) Q)
      -∗ wpc c (.op (.store M r w Finset.univ hx hm) k) Q) := by
  unfold Owns Holds
  iintro ⟨%f, H⟩ Hk
  iapply (wp_store 𝒱₀ (c : Thread nD τ) none Set.univ (m := M) (r := r) (f := f) (Mk := Finset.univ) (S := (M.slice r hr).view.set) (Finset.Subset.refl _)) $$ H
  iintro H
  iapply Hk
  iexists _
  isplitr [H]
  rotate_left
  · iexact H
  · ipureintro; exact View.read_write_univ _ _

/-- A load of a rectangle of a memref that reads `w`. -/
theorem wp_load_sub {M : Memref sig .tc cs s e} {r : Rect s} {hl : M.view.LoadsAt r.toLoadRect}
    {k : (r.shape.Idx → Elt F e) → Prog (TpuEff nD τ sig (Elt F) Λ₀ .tc) α} {Q : α → sProp 𝕄} {q : PosShare TreeShare} {w : s.Idx → Elt F e} :
    Holds M c q w ⊢ iprop((Holds M c q w -∗ wpc c (k fun x => w (r.emb x)) Q) -∗ wpc c (.op (.load M r.toLoadRect hl) k) Q) := by
  unfold Holds
  iintro ⟨%f, %hf, H⟩ Hk
  iapply (wp_load_rect 𝒱₀ (c : Thread nD τ) none Set.univ (m := M) (r := r) (f := f) (q := q) (S := M.view.set) (View.set_slice_subset _ _)) $$ H
  iintro H
  rw [show (M.access r).read (Elt F) f = fun x => w (r.emb x) from by subst hf; rfl]
  iapply Hk
  iexists f
  isplitr [H]
  · ipureintro; exact hf
  · iexact H

/-- A store over a rectangle of a memref: what it reads changes there and only there. -/
theorem wp_store_sub {M : Memref sig .tc cs s e} {r : Rect s} {v : r.shape.Idx → Elt F e} {w : s.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    Holds M c fullShare w ⊢ iprop((∀ w' : s.Idx → Elt F e, ⌜(∀ x, w' (r.emb x) = v x) ∧ ∀ y, (∀ x, r.emb x ≠ y) → w' y = w y⌝
        -∗ Holds M c fullShare w' -∗ wpc c (k ⟨⟩) Q)
      -∗ wpc c (.op (.store M r v Finset.univ hx hm) k) Q) := by
  unfold Holds
  iintro ⟨%f, %hf, H⟩ Hk
  iapply (wp_store 𝒱₀ (c : Thread nD τ) none Set.univ (m := M) (r := r) (f := f) (Mk := Finset.univ) (S := M.view.set) (View.set_slice_subset _ _)) $$ H
  iintro H
  iapply Hk $$ %(M.view.read (Elt F) ((M.access r).write (Elt F) f v Finset.univ)) []
  · ipureintro
    refine ⟨fun x => View.read_write_of_mem (v := M.access r) f v (Finset.mem_univ x), fun y hy => ?_⟩
    subst hf
    rw [View.read_apply, View.read_apply, View.write_of_not_mem]
    intro hmem
    obtain ⟨x, -, hx⟩ := Finset.mem_map.mp hmem
    exact hy x (M.view.emb.injective hx)
  iexists _
  isplitr [H]
  rotate_left
  · iexact H
  · ipureintro; rfl

/-- The unit rectangle of a shape at zero offsets is the identity. -/
theorem emb_zero {off : Fin s.rank → ℕ} {h : ∀ a, off a + s.size a ≤ s.size a} (x : (Rect.unit (s := s) off s.size h).shape.Idx) :
    (Rect.unit (s := s) off s.size h).emb x = x := by
  have h0 : off = fun _ => 0 := funext fun a => by have := h a; omega
  subst h0
  exact Rect.emb_whole_apply s x

/-- A load of a whole memref that reads `w`. -/
theorem wp_load_all {M : Memref sig .tc cs s e} {off : Fin s.rank → ℕ} {h : ∀ a, off a + s.size a ≤ s.size a}
    {hl : M.view.LoadsAt (Rect.unit (s := s) off s.size h).toLoadRect}
    {k : (s.Idx → Elt F e) → Prog (TpuEff nD τ sig (Elt F) Λ₀ .tc) α} {Q : α → sProp 𝕄} {q : PosShare TreeShare} {w : s.Idx → Elt F e} :
    Holds M c q w ⊢ iprop((Holds M c q w -∗ wpc c (k w) Q) -∗ wpc c (.op (.load M (Rect.unit (s := s) off s.size h).toLoadRect hl) k) Q) := by
  have := wp_load_sub (F := F) c (M := M) (r := Rect.unit (s := s) off s.size h) (hl := hl) (k := k) (q := q) (w := w) (Q := Q)
  rw [show (fun x => w ((Rect.unit (s := s) off s.size h).emb x)) = w from funext fun x => congrArg w (emb_zero x)] at this
  exact this

/-- A store over a whole memref. -/
theorem wp_store_all {M : Memref sig .tc cs s e} {off : Fin s.rank → ℕ} {h : ∀ a, off a + s.size a ≤ s.size a} {v w : s.Idx → Elt F e}
    {hx : (M.access (Rect.unit (s := s) off s.size h)).Stores Finset.univ}
    {hm : (Finset.univ : Finset (Rect.unit (s := s) off s.size h).shape.Idx) = Finset.univ ∨ ∀ a, (Rect.unit (s := s) off s.size h).stride a = 1}
    {k : PUnit → Prog (TpuEff nD τ sig (Elt F) Λ₀ .tc) α} {Q : α → sProp 𝕄} :
    Holds M c fullShare w ⊢ iprop((Holds M c fullShare v -∗ wpc c (k ⟨⟩) Q)
      -∗ wpc c (.op (.store M (Rect.unit (s := s) off s.size h) v Finset.univ hx hm) k) Q) := by
  iintro H Hk
  iapply (wp_store_sub (F := F) c (M := M) (r := Rect.unit (s := s) off s.size h) (v := v) (w := w) (Q := Q)) $$ H
  iintro %w' %hw H
  rw [show w' = v from funext fun x => by have := hw.1 x; rwa [emb_zero] at this]
  iapply Hk $$ H

/-- A load of a whole memref with unknown contents. -/
theorem owns_holds {sp : Space} (M : Memref sig .tc sp s e) : Owns M c ⊢ (iprop(∃ w, Holds M c fullShare w) : sProp 𝕄) := by
  unfold Owns Holds
  iintro ⟨%f, H⟩
  iexists (M.view.read (Elt F) f)
  iexists f
  isplitr [H]
  · ipureintro; rfl
  · iexact H

end Access

end Cert.KernelIdeal.Ring
-- ==== Proof.KernelIdeal.Hops.lean ====
/-
# 01_k — a hop of a lane: its send, the wait for the send, the wait for the landing
-/
module

public import proofs.«01_k».proof.Proof.KernelIdeal.Steps

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds of a lane -/

/-- The name under which each cell's invariant stands. -/
abbrev Names : Type := Dev nD × CK → ℕ

/-- Every cell's invariant, and that round 0 of it is reached. -/
def records (K : Names) : sProp 𝕄 :=
  iprop((bigSep Finset.univ fun p : Dev nD × CK => cellInv ER (ringRd m) (K p) (kcell p.1 p.2))
    ∗ (bigSep Finset.univ fun p : Dev nD × CK => reached ER (kcell p.1 p.2) 0))

instance records_persistent (K : Names) : BI.Persistent (records m K) := by unfold records; infer_instance

theorem records_inv (K : Names) (c : Dev nD) (k : CK) :
    records m K ⊢ (iprop(cellInv ER (ringRd m) (K (c, k)) (kcell c k) ∗ reached ER (kcell c k) 0) : sProp 𝕄) := by
  unfold records
  exact BI.sep_mono (bigSep_elim (i := (c, k)) (Finset.mem_univ _)) (bigSep_elim (i := (c, k)) (Finset.mem_univ _))

/-- What is owed, whatever is recorded as waited for. -/
def owesE (c : Dev nD) (O : CellTallies nD τ sig Unit) : sProp 𝕄 := iprop(∃ W, owes (c : Thread nD τ) O W)

/-- The ghost resources of hop `h` of a lane, unused. -/
def Kit (l : Lane) (c : Dev nD) (h : Fin (hops l)) : sProp 𝕄 :=
  iprop(atPos ER (kcell c (CK.snd ⟨l, h⟩)) 0 ∅ 0 ∗ atPos ER (kcell c (CK.rcv ⟨l, h⟩)) 0 ∅ 0
    ∗ dutyTok ER (kcell c (CK.snd ⟨l, h⟩)) 0 false ∗ dutyTok ER (kcell (up l c) (CK.rcv ⟨l, h⟩)) 0 false
    ∗ cred (tallyAt (kcell c (CK.rcv ⟨l, h⟩)) () (NL l)))

/-- A hop to make: its ghost resources and the slot it fills. -/
def KitP (l : Lane) (c : Dev nD) (h : Fin (hops l)) : sProp 𝕄 := iprop(Kit l c h ∗ Owns (slotM l h.succ) (up l c))

/-- A hop made and received: its two semaphores at zero, its source slot back. -/
def Done (l : Lane) (c : Dev nD) (h : Fin (hops l)) : sProp 𝕄 :=
  iprop(semVal (kcell c (CK.snd ⟨l, h⟩)) 0 ∗ semVal (kcell c (CK.rcv ⟨l, h⟩)) 0 ∗ Owns (slotM l h.castSucc) c)

/-- The hops before `k` made, the others to make. -/
def HopsAt (l : Lane) (c : Dev nD) (k : ℕ) : sProp 𝕄 :=
  bigSep Finset.univ fun i : Fin (hops l) => if i.val < k then Done l c i else KitP l c i

/-- The same but for hop `h`. -/
def Others (l : Lane) (c : Dev nD) (h : Fin (hops l)) : sProp 𝕄 :=
  bigSep (Finset.univ.erase h) fun i : Fin (hops l) => if i.val < h.val then Done l c i else KitP l c i

/-- Slot `s` of a lane on device `c` holding the block it is for. -/
def SlotHas (l : Lane) (c : Dev nD) (s : Fin (hops l + 1)) (q : PosShare TreeShare) : sProp 𝕄 :=
  Holds (slotM l s) c q (blk m l (org l s.val c))

/-- A lane before hop `s`: slot `s` filled. -/
def LaneAt (l : Lane) (c : Dev nD) (s : Fin (hops l + 1)) : sProp 𝕄 :=
  iprop(HopsAt l c s.val ∗ SlotHas m l c s fullShare)

/-- Hop `h` in flight. -/
def InFlight (l : Lane) (c : Dev nD) (h : Fin (hops l)) : sProp 𝕄 :=
  iprop(Others l c h ∗ atPos ER (kcell c (CK.snd ⟨l, h⟩)) 0 ∅ 0 ∗ atPos ER (kcell c (CK.rcv ⟨l, h⟩)) 0 ∅ 0
    ∗ cred (tallyAt (kcell c (CK.snd ⟨l, h⟩)) () (NL l)) ∗ cred (tallyAt (kcell c (CK.rcv ⟨l, h⟩)) () (NL l)))

/-- Hop `h` sent, not yet received. -/
def Sent (l : Lane) (c : Dev nD) (h : Fin (hops l)) : sProp 𝕄 :=
  iprop(Others l c h ∗ semVal (kcell c (CK.snd ⟨l, h⟩)) 0 ∗ Owns (slotM l h.castSucc) c
    ∗ atPos ER (kcell c (CK.rcv ⟨l, h⟩)) 0 ∅ 0 ∗ cred (tallyAt (kcell c (CK.rcv ⟨l, h⟩)) () (NL l)))

theorem hopsAt_peel (l : Lane) (c : Dev nD) (h : Fin (hops l)) : HopsAt l c h.val ⊢ (iprop(KitP l c h ∗ Others l c h) : sProp 𝕄) := by
  unfold HopsAt Others
  rw [bigSep_erase (Finset.mem_univ h), if_neg (Nat.lt_irrefl _)]
  exact .rfl

theorem hopsAt_close (l : Lane) (c : Dev nD) (h : Fin (hops l)) : iprop(Done l c h ∗ Others l c h) ⊢ (HopsAt l c (h.val + 1) : sProp 𝕄) := by
  unfold HopsAt Others
  rw [bigSep_erase (s := Finset.univ) (Finset.mem_univ h), if_pos (Nat.lt_succ_self _)]
  refine sep_mono_right (Entails.of_eq (bigSep_congr fun i hi => ?_))
  have hne : i.val ≠ h.val := fun e => (Finset.mem_erase.mp hi).1 (Fin.ext e)
  by_cases hlt : i.val < h.val
  · rw [if_pos hlt, if_pos (by omega)]
  · rw [if_neg hlt, if_neg (by omega)]

/-! ## A slot as a copy's end -/

theorem flat_set (l : Lane) (s : Fin (hops l + 1)) : (flatM l s).view.set = (slotM l s).view.set :=
  View.set_reshape _ _

omit [FloatOps F] in
theorem pts_flat (l : Lane) (c : Dev nD) (s : Fin (hops l + 1)) (q : PosShare TreeShare) (f : Buf (Elt F) ((slotM l s).view.loc (c : Thread nD τ))) :
    ((slotM l s).view.loc (c : Thread nD τ) ↦[(slotM l s).view.set]{q} f : sProp 𝕄)
      = ((flatM l s).view.loc (c : Thread nD τ) ↦[(flatM l s).view.set]{q} f) := by
  rw [flat_set]; rfl

/-- What a slot reads once another slot's contents are copied into it. -/
theorem read_landing (l : Lane) (s s' : Fin (hops l + 1)) (fd : (slotM l s').view.ty.Contents (Elt F)) (fs : (slotM l s).view.ty.Contents (Elt F)) :
    (slotM l s').view.read (Elt F) ((flatM l s').view.write (Elt F) fd ((flatM l s).view.read (Elt F) fs) Finset.univ)
      = (slotM l s).view.read (Elt F) fs := by
  funext x
  obtain ⟨y, rfl⟩ := (Shape.reshapeEquiv (squeezes l).numel_eq).surjective x
  exact View.read_write_reshape _ _ _ _ _

/-! ## A hop -/

section HopSteps
variable {α : Type}

theorem wp_hop_send (K : Names) (c : Dev nD) (l : Lane) (h : Fin (hops l))
    {src dst : Memref sig .tc .vmem (sh2 l) .bf16} {sS rS : DmaSem sig} {n : Dev nD} {O O' : CellTallies nD τ sig Unit}
    (hn : n = up l c) (hs : src = flatM l h.castSucc) (hd : dst = flatM l h.succ) (hsS : sS = sendS l h) (hrS : rS = recvS l h)
    (hO : O' = O + tallyAt (kcell (up l c) (CK.rcv ⟨l, h⟩)) () (NL l))
    {hsc : dst.view.ref.isScScratch = false} {hsrc : src.view.WordExact} {hdst : dst.view.WordExact}
    {hsem : DmaTarget.Typed .vmem (.dma rS) (.remote (Dev.tc n : Thread nD τ) dst (.dma sS) hsc)}
    {k : PUnit → Prog (TpuEff nD τ sig (Elt F) Λ₀ .tc) α} {Q : α → sProp 𝕄} :
    iprop(records m K ∗ LaneAt m l c h.castSucc ∗ owesE c O')
      ⊢ iprop(((InFlight l c h ∗ SlotHas m l c h.castSucc fullShare.left ∗ owesE c O) -∗ wpc c (k ⟨⟩) Q)
        -∗ wpc c (.op (.enqueueDma src (.remote (Dev.tc n : Thread nD τ) dst (.dma sS) hsc) (.dma rS) hsrc hdst hsem) k) Q) := by
  subst hn hs hd hsS hrS
  unfold LaneAt owesE
  iintro ⟨#Hrec, ⟨Hhops, Hslot⟩, ⟨%W, HO⟩⟩ Hk
  rw [show h.castSucc.val = h.val from rfl]
  ihave H := (hopsAt_peel l c h) $$ Hhops
  unfold KitP Kit
  icases H with ⟨⟨⟨Hps, Hpr, Hts, Htr, Hcr⟩, Hdst⟩, Hoth⟩
  unfold SlotHas
  ihave H := (holds_halves _ _ _) $$ Hslot
  icases H with ⟨HL, HR⟩
  ihave #Hs := (records_inv m K c (CK.snd ⟨l, h⟩)) $$ Hrec
  ihave #Hr := (records_inv m K (up l c) (CK.rcv ⟨l, h⟩)) $$ Hrec
  icases Hs with ⟨HsI, HsR⟩
  icases Hr with ⟨HrI, HrR⟩
  unfold Owns Holds
  icases Hdst with ⟨%fd, Hdst⟩
  icases HR with ⟨%fs, %hfs, HR⟩
  ihave HRf := (Entails.of_eq (pts_flat l c h.castSucc fullShare.right fs)) $$ HR
  ihave Hdf := (Entails.of_eq (pts_flat l (up l c) h.succ fullShare fd)) $$ Hdst
  iapply (Rounds.wp_send_pointsTo 𝒱₀ ER (ringRd m) (c : Thread nD τ) none (κ₁ := K (c, CK.snd ⟨l, h⟩)) (κ₂ := K (up l c, CK.rcv ⟨l, h⟩)) (r₁ := 0) (r₂ := 0) (d₁ := false) (d₂ := false)
    (c' := (Dev.tc (up l c) : Thread nD τ)) (src := flatM l h.castSucc) (dst := flatM l h.succ) (sS := .dma (sendS l h)) (sem := .dma (recvS l h)) (fd := fd) (fs := fs) (q := fullShare.right) (mem_dut m c (CK.snd ⟨l, h⟩) rfl) (mem_dut m (up l c) (CK.rcv ⟨l, h⟩) rfl) () () (NL l) (show (flatM l h.succ).view.dmaCredit = NL l from credit_flat l h.succ)
    (amount_k m c (CK.snd ⟨l, h⟩) _) (amount_k m (up l c) (CK.rcv ⟨l, h⟩) _) O hO (W := W) ?_ ?_) $$ [HO Hts Htr HRf Hdf]
  · rw [show ((c : Thread nD τ), SemLoc.dma (sendS l h)) = kcell c (CK.snd ⟨l, h⟩) from rfl, payload_k, ← pts_flat]
    show _ ⊢ sndPay m l h c
    unfold sndPay Holds
    iintro H
    iexists fs
    isplitr [H]
    · ipureintro; exact hfs
    · iexact H
  · rw [show ((Dev.tc (up l c) : Thread nD τ), SemLoc.dma (recvS l h)) = kcell (up l c) (CK.rcv ⟨l, h⟩) from rfl, payload_k]
    refine (Entails.of_eq (pts_flat l (up l c) h.succ fullShare _).symm).trans ?_
    show _ ⊢ rcvPay m l h (up l c)
    unfold rcvPay Holds
    iintro H
    iexists _
    isplitr [H]
    rotate_left
    · iexact H
    · ipureintro
      rw [read_landing, hfs, org_succ]
      rfl
  · isplitr; · iexact HsI
    isplitr; · iexact HrI
    isplitl [HRf]; · iexact HRf
    isplitl [Hdf]; · iexact Hdf
    isplitl [HO]; · iexact HO
    isplitl [Hts]; · iexact Hts
    isplitr; · iexact HsR
    isplitl [Htr]; · iexact Htr
    iexact HrR
  iintro ⟨Hcs, HO⟩
  iapply Hk
  unfold InFlight
  isplitl [Hoth Hps Hpr Hcr Hcs]
  · isplitl [Hoth]; · iexact Hoth
    isplitl [Hps]; · iexact Hps
    isplitl [Hpr]; · iexact Hpr
    isplitl [Hcs]; · iexact Hcs
    iexact Hcr
  isplitl [HL]
  · iexact HL
  · iexists W; iexact HO

/-- Waiting for all a copy's semaphore of one duty counts: its payload, and the semaphore back at zero. -/
theorem wp_wait_done (K : Names) (c : Dev nD) (ck : CK) (hk : dut ck = {false}) {sp sp' : Space} {s s' : Shape} {e e' : EltTy}
    {src : Memref sig .tc sp' s' e'} {dst : Memref sig .tc sp s e} {sem : DmaSem sig} {N : ℕ} {O : CellTallies nD τ sig Unit}
    (hsem : csem ck = .dma sem) (hamt : amt ck = N) (hN : dst.view.dmaCredit = N)
    (hmay : (levAts L lv : sProp 𝕄) ⊢ MayWait (c : Thread nD τ) (csem ck) () O)
    {hsrc : src.view.WordExact} {hdst : dst.view.WordExact}
    {k : PUnit → Prog (TpuEff nD τ sig (Elt F) Λ₀ .tc) α} {Q : α → sProp 𝕄} :
    iprop(records m K ∗ levAts L lv ∗ cred (tallyAt (kcell c ck) () N) ∗ atPos ER (kcell c ck) 0 ∅ 0 ∗ owesE c O)
      ⊢ iprop(((semVal (kcell c ck) 0 ∗ pay m ck c false ∗ owesE c O) -∗ wpc c (k ⟨⟩) Q)
        -∗ wpc c (.op (.waitDma2 sem src dst hsrc hdst) k) Q) := by
  subst hamt
  unfold owesE
  iintro ⟨#Hrec, #Hlev, Hc, Hat, ⟨%W, HO⟩⟩ Hk
  ihave #Hs := (records_inv m K c ck) $$ Hrec
  icases Hs with ⟨HsI, HsR⟩
  rw [show kcell c ck = ((c : Thread nD τ), SemLoc.dma sem) from Prod.ext rfl hsem]
  rw [hsem] at hmay
  iapply (Rounds.wp_wait_rest_token 𝒱₀ ER (ringRd m) (c : Thread nD τ) none (κ := K (c, ck))
    (wpE_waitDma2_eq 𝒱₀ (c : Thread nD τ) none Set.univ) (Set.mem_univ _) () (O := O) (W := W) (R := 0) (m := 0) (T := ∅)
    (by rw [Nat.zero_add, hN, ← expect_one m c ck hk]; exact congrArg (fun g => (ringRd m).expect g 0) (Prod.ext rfl hsem))) $$ [Hc HO Hat]
  · isplitr; · iexact HsI
    isplitl [Hc]; · rw [hN]; iexact Hc
    isplitl [HO]; · iexact HO
    isplitr; · iapply hmay; iexact Hlev
    iexact Hat
  iintro ⟨HO, Hat, -, Hpay⟩
  rw [show ((c : Thread nD τ), SemLoc.dma sem) = kcell c ck from Prod.ext rfl hsem.symm]
  imod (Rounds.cell_close ER (ringRd m) (Set.mem_univ (K (c, ck))) (fun h => h) (R := 0 + 1) (duties_later m (kcell c ck))) $$ [Hat] with Hz
  · isplitr; · iexact HsI
    iexact Hat
  ihave Hpay := (Entails.of_eq (rest_one m c ck hk)) $$ Hpay
  iapply Hk
  isplitl [Hz]; · iexact Hz
  isplitl [Hpay]; · iexact Hpay
  iexists _; iexact HO

/-- Waiting until the sent slot has been read: its lent half comes back. -/
theorem wp_hop_wait_send (K : Names) (c : Dev nD) (l : Lane) (h : Fin (hops l))
    {src dst : Memref sig .tc .vmem (sh2 l) .bf16} {sS : DmaSem sig} {O : CellTallies nD τ sig Unit}
    (hs : src = flatM l h.castSucc) (hsS : sS = sendS l h)
    (hmay : (levAts L lv : sProp 𝕄) ⊢ MayWait (c : Thread nD τ) (csem (CK.snd ⟨l, h⟩)) () O)
    {hsrc : src.view.WordExact} {hdst : dst.view.WordExact}
    {k : PUnit → Prog (TpuEff nD τ sig (Elt F) Λ₀ .tc) α} {Q : α → sProp 𝕄} :
    iprop(records m K ∗ levAts L lv ∗ InFlight l c h ∗ SlotHas m l c h.castSucc fullShare.left ∗ owesE c O)
      ⊢ iprop(((Sent l c h ∗ owesE c O) -∗ wpc c (k ⟨⟩) Q)
        -∗ wpc c (.op (.waitDma2 sS dst src hdst hsrc) k) Q) := by
  unfold InFlight
  iintro ⟨#Hrec, #Hlev, ⟨Hoth, Hps, Hpr, Hcs, Hcr⟩, Hslot, HO⟩ Hk
  iapply (wp_wait_done m K c (CK.snd ⟨l, h⟩) rfl (congrArg SemLoc.dma hsS.symm) rfl (by rw [hs]; exact credit_flat l h.castSucc) hmay) $$ [Hcs Hps HO]
  · isplitr; · iexact Hrec
    isplitr; · iexact Hlev
    isplitl [Hcs]; · iexact Hcs
    isplitl [Hps]; · iexact Hps
    iexact HO
  iintro ⟨Hz, Hpay, HO⟩
  iapply Hk
  unfold Sent SlotHas
  ihave H := (holds_join (slotM l h.castSucc) c (blk m l (org l h.castSucc.val c))) $$ [Hslot Hpay]
  · isplitl [Hslot]; · iexact Hslot
    iapply (show pay m (CK.snd ⟨l, h⟩) c false ⊢ Holds (slotM l h.castSucc) c fullShare.right (blk m l (org l h.castSucc.val c)) from .rfl)
    iexact Hpay
  ihave H := (holds_owns _ _ _) $$ H
  isplitr [HO]
  · isplitl [Hoth]; · iexact Hoth
    isplitl [Hz]; · iexact Hz
    isplitl [H]; · iexact H
    isplitl [Hpr]; · iexact Hpr
    iexact Hcr
  iexact HO

/-- Waiting for the block to land in the next slot. -/
theorem wp_hop_wait_recv (K : Names) (c : Dev nD) (l : Lane) (h : Fin (hops l))
    {src dst : Memref sig .tc .vmem (sh2 l) .bf16} {rS : DmaSem sig} {O : CellTallies nD τ sig Unit}
    (hd : dst = flatM l h.succ) (hrS : rS = recvS l h)
    (hmay : (levAts L lv : sProp 𝕄) ⊢ MayWait (c : Thread nD τ) (csem (CK.rcv ⟨l, h⟩)) () O)
    {hsrc : src.view.WordExact} {hdst : dst.view.WordExact}
    {k : PUnit → Prog (TpuEff nD τ sig (Elt F) Λ₀ .tc) α} {Q : α → sProp 𝕄} :
    iprop(records m K ∗ levAts L lv ∗ Sent l c h ∗ owesE c O)
      ⊢ iprop(((LaneAt m l c h.succ ∗ owesE c O) -∗ wpc c (k ⟨⟩) Q)
        -∗ wpc c (.op (.waitDma2 rS src dst hsrc hdst) k) Q) := by
  unfold Sent
  iintro ⟨#Hrec, #Hlev, ⟨Hoth, Hzs, Hown, Hpr, Hcr⟩, HO⟩ Hk
  iapply (wp_wait_done m K c (CK.rcv ⟨l, h⟩) rfl (congrArg SemLoc.dma hrS.symm) rfl (by rw [hd]; exact credit_flat l h.succ) hmay) $$ [Hcr Hpr HO]
  · isplitr; · iexact Hrec
    isplitr; · iexact Hlev
    isplitl [Hcr]; · iexact Hcr
    isplitl [Hpr]; · iexact Hpr
    iexact HO
  iintro ⟨Hz, Hpay, HO⟩
  iapply Hk
  isplitr [HO]
  · unfold LaneAt
    isplitr [Hpay]
    · rw [show h.succ.val = h.val + 1 from rfl]
      iapply (hopsAt_close l c h)
      unfold Done
      isplitr [Hoth]
      · isplitl [Hzs]; · iexact Hzs
        isplitl [Hz]; · iexact Hz
        iexact Hown
      iexact Hoth
    iapply (show pay m (CK.rcv ⟨l, h⟩) c false ⊢ SlotHas m l c h.succ fullShare from .rfl)
    iexact Hpay
  iexact HO

end HopSteps

end Cert.KernelIdeal.Ring
-- ==== Proof.KernelIdeal.Compute.lean ====
/-
# 01_k — attention over one block of heads, and its part of the output
-/
module

public import proofs.«01_k».proof.Proof.KernelIdeal.Hops

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is computed -/

theorem head_inb (j : Fin 16) (n : Fin 8) : ∀ a, (![n.val / 4, 0, 4 * j.val + n.val % 4, 0] : Fin 4 → ℕ) a + S1x128x1x64.size a ≤ S2x128x64x64.size a := by
  revert j n; decide +kernel

theorem ctx_inb (n : Fin 8) : ∀ a, (![128 * (n.val / 4), 64 * (n.val % 4)] : Fin 2 → ℕ) a + S128x64.size a ≤ S256x256.size a := by
  revert n; decide +kernel

theorem ctx_slices (n : Fin 8) : S256x256.Slices ![128 * (n.val / 4), 64 * (n.val % 4)] S128x64 :=
  ⟨rfl, fun a => ctx_inb n a⟩

/-- Head `n` (batch row `n / 4`, head `n % 4`) of block `j` of the keys or the values. -/
def kvAt (w : Vec F S2x128x64x64 .f32) (j : Fin 16) (n : Fin 8) : Vec F S1x128x1x64 .f32 :=
  fun x => w ((Rect.unit (s := S2x128x64x64) ![n.val / 4, 0, 4 * j.val + n.val % 4, 0] S1x128x1x64.size (head_inb j n)).emb x)

/-- Head `n` of the queries. -/
def qAt (X : FVec F S256x256 .f32) (n : Fin 8) : FVec F S128x64 .bf16 :=
  truncf .bf16 (extractStridedSlice S128x64 ![128 * (n.val / 4), 64 * (n.val % 4)] X (ctx_slices n)) bitsLt_bf16_f32

/-- Attention of head `n` over block `j`. -/
def att (X : FVec F S256x256 .f32) (kB vB : Vec F S2x128x64x64 .f32) (j : Fin 16) (n : Fin 8) : FVec F S128x64 .bf16 :=
  k0_pay60 (qAt X n) (k0_pay59 (kvAt kB j n)) (kvAt vB j n)

theorem ctxHead_lt (i : S256x256.Idx) : 4 * ((i 0).val / 128) + (i 1).val / 64 < 8 := by
  have h0 : (i 0).val < 256 := (i 0).isLt
  have h1 : (i 1).val < 256 := (i 1).isLt
  omega

/-- The head that entry `i` of the heads side by side belongs to. -/
def ctxHead (i : S256x256.Idx) : Fin 8 := ⟨4 * ((i 0).val / 128) + (i 1).val / 64, ctxHead_lt i⟩

/-- Its place there. -/
def ctxIn (i : S256x256.Idx) : S128x64.Idx
  | 0 => ⟨(i 0).val % 128, Nat.mod_lt _ (by decide)⟩
  | 1 => ⟨(i 1).val % 64, Nat.mod_lt _ (by decide)⟩

/-- The heads side by side. -/
def ctxOf (hv : Fin 8 → Vec F S128x64 .bf16) : Vec F S256x256 .bf16 := fun i => hv (ctxHead i) (ctxIn i)

/-- The output with one block's part added. -/
def accStep (x2 : FVec F S256x512 .bf16) (aq : Vec F S1x512x256 .bf16) (ao : Vec F S1x256x512 .bf16) (kB vB : Vec F S2x128x64x64 .f32)
    (j : Fin 16) (acc : Vec F S256x512 .f32) : Vec F S256x512 .f32 :=
  k0_pay79 (k0_pay56 ao) acc (ctxOf (att (k0_pay57 x2 aq) kB vB j))

/-! ## The scratch buffers -/

abbrev kM : Memref sig .tc .vmem S2x128x64x64 .f32 := Memref.whole cc0_scratch4
abbrev vM : Memref sig .tc .vmem S2x128x64x64 .f32 := Memref.whole cc0_scratch5
abbrev ctxM : Memref sig .tc .vmem S256x256 .bf16 := Memref.whole cc0_scratch6
abbrev accM : Memref sig .tc .vmem S256x512 .f32 := Memref.whole cc0_scratch7

/-- The heads before `n` are in place. -/
def CtxAt (c : Dev nD) (hv : Fin 8 → Vec F S128x64 .bf16) (n : ℕ) : sProp 𝕄 :=
  iprop(∃ w : Vec F S256x256 .bf16, ⌜∀ i, (ctxHead i).val < n → w i = ctxOf hv i⌝ ∗ Holds ctxM c fullShare w)

/-- The keys, the values, and the heads before `n`. -/
def Heads (c : Dev nD) (kB vB : Vec F S2x128x64x64 .f32) (hv : Fin 8 → Vec F S128x64 .bf16) (n : ℕ) : sProp 𝕄 :=
  iprop(Holds kM c fullShare kB ∗ Holds vM c fullShare vB ∗ CtxAt c hv n)

theorem ctx_emb (n : Fin 8) (h : ∀ a, (![128 * (n.val / 4), 64 * (n.val % 4)] : Fin 2 → ℕ) a + S128x64.size a ≤ S256x256.size a)
    (x : S128x64.Idx) : ctxHead ((Rect.unit (s := S256x256) ![128 * (n.val / 4), 64 * (n.val % 4)] S128x64.size h).emb x) = n
      ∧ ctxIn ((Rect.unit (s := S256x256) ![128 * (n.val / 4), 64 * (n.val % 4)] S128x64.size h).emb x) = x := by
  have h0 : (x 0).val < 128 := (x 0).isLt
  have h1 : (x 1).val < 64 := (x 1).isLt
  have e0 : ((Rect.unit (s := S256x256) ![128 * (n.val / 4), 64 * (n.val % 4)] S128x64.size h).emb x 0).val = 128 * (n.val / 4) + 1 * (x 0).val := rfl
  have e1 : ((Rect.unit (s := S256x256) ![128 * (n.val / 4), 64 * (n.val % 4)] S128x64.size h).emb x 1).val = 64 * (n.val % 4) + 1 * (x 1).val := rfl
  have hn := n.isLt
  constructor
  · apply Fin.ext
    show 4 * (_ / 128) + _ / 64 = n.val
    rw [e0, e1]; omega
  · funext a
    apply Fin.ext
    match a with
    | 0 => show _ % 128 = (x 0).val; rw [e0]; omega
    | 1 => show _ % 64 = (x 1).val; rw [e1]; omega

theorem ctx_mem (n : Fin 8) (h : ∀ a, (![128 * (n.val / 4), 64 * (n.val % 4)] : Fin 2 → ℕ) a + S128x64.size a ≤ S256x256.size a)
    (i : S256x256.Idx) (hi : ctxHead i = n) : (Rect.unit (s := S256x256) ![128 * (n.val / 4), 64 * (n.val % 4)] S128x64.size h).emb (ctxIn i) = i := by
  subst hi
  have h0 : (i 0).val < 256 := (i 0).isLt
  have h1 : (i 1).val < 256 := (i 1).isLt
  funext a
  apply Fin.ext
  match a with
  | 0 =>
    show 128 * ((4 * ((i 0).val / 128) + (i 1).val / 64) / 4) + 1 * ((i 0).val % 128) = (i 0).val
    omega
  | 1 =>
    show 64 * ((4 * ((i 0).val / 128) + (i 1).val / 64) % 4) + 1 * ((i 1).val % 64) = (i 1).val
    omega

/-! ## One head -/

section Heads
variable {α : Type}

/-- The four accesses of a head: its keys, its values, its place read, its place written. -/
abbrev headOp (offk : Fin 4 → ℕ) (offc : Fin 2 → ℕ) (hk : ∀ a, offk a + S1x128x1x64.size a ≤ S2x128x64x64.size a)
    (hc : ∀ a, offc a + S128x64.size a ≤ S256x256.size a)
    (lk : kM.view.LoadsAt (Rect.unit (s := S2x128x64x64) offk S1x128x1x64.size hk).toLoadRect)
    (lv : vM.view.LoadsAt (Rect.unit (s := S2x128x64x64) offk S1x128x1x64.size hk).toLoadRect)
    (lc : ctxM.view.LoadsAt (Rect.unit (s := S256x256) offc S128x64.size hc).toLoadRect)
    (hx : (ctxM.access (Rect.unit (s := S256x256) offc S128x64.size hc)).Stores Finset.univ)
    (hm : (Finset.univ : Finset (Rect.unit (s := S256x256) offc S128x64.size hc).shape.Idx) = Finset.univ ∨ ∀ a, (Rect.unit (s := S256x256) offc S128x64.size hc).stride a = 1)
    (pay : Vec F S1x128x1x64 .f32 → Vec F S1x128x1x64 .f32 → FVec F S128x64 .bf16)
    (k : PUnit → Prog (TpuEff nD τ sig (Elt F) Λ₀ .tc) α) : Prog (TpuEff nD τ sig (Elt F) Λ₀ .tc) α :=
  .op (.load kM (Rect.unit (s := S2x128x64x64) offk S1x128x1x64.size hk).toLoadRect lk) fun vk =>
  .op (.load vM (Rect.unit (s := S2x128x64x64) offk S1x128x1x64.size hk).toLoadRect lv) fun vv =>
  .op (.load ctxM (Rect.unit (s := S256x256) offc S128x64.size hc).toLoadRect lc) fun _ =>
  .op (.store ctxM (Rect.unit (s := S256x256) offc S128x64.size hc) (pay vk vv) Finset.univ hx hm) k

theorem wp_head (c : Dev nD) (X : FVec F S256x256 .f32) (kB vB : Vec F S2x128x64x64 .f32) (j : Fin 16) (n : Fin 8) (a b : ℕ) (hna : n.val = a) (hab : a + 1 = b)
    {offk : Fin 4 → ℕ} {offc : Fin 2 → ℕ} (ek : offk = ![n.val / 4, 0, 4 * j.val + n.val % 4, 0])
    (ec : offc = ![128 * (n.val / 4), 64 * (n.val % 4)])
    {hk hc lk lv lc hx hm} {pay : Vec F S1x128x1x64 .f32 → Vec F S1x128x1x64 .f32 → FVec F S128x64 .bf16}
    (hp : ∀ vk vv, pay vk vv = k0_pay60 (qAt X n) (k0_pay59 vk) vv)
    {k : PUnit → Prog (TpuEff nD τ sig (Elt F) Λ₀ .tc) α} {Q : α → sProp 𝕄} :
    Heads c kB vB (att X kB vB j) a
      ⊢ iprop((Heads c kB vB (att X kB vB j) b -∗ wpc c (k ⟨⟩) Q)
        -∗ wpc c (headOp offk offc hk hc lk lv lc hx hm pay k) Q) := by
  subst ek ec hna hab
  unfold Heads CtxAt
  iintro ⟨HK, HV, ⟨%w, %hw, HC⟩⟩ Hk
  iapply (wp_load_sub (F := F) c (M := kM) (w := kB)) $$ HK
  iintro HK
  iapply (wp_load_sub (F := F) c (M := vM) (w := vB)) $$ HV
  iintro HV
  iapply (wp_load_sub (F := F) c (M := ctxM) (w := w)) $$ HC
  iintro HC
  iapply (wp_store_sub (F := F) c (M := ctxM) (w := w)) $$ HC
  iintro %w' %hw' HC
  iapply Hk
  isplitl [HK]; · iexact HK
  isplitl [HV]; · iexact HV
  iexists w'
  isplitr [HC]
  · ipureintro
    intro i hi
    by_cases hn : ctxHead i = n
    · rw [← ctx_mem n hc i hn, hw'.1, hp]
      unfold ctxOf
      rw [(ctx_emb n hc (ctxIn i)).1, (ctx_emb n hc (ctxIn i)).2]
      rfl
    · have hne : (ctxHead i).val ≠ n.val := fun e => hn (Fin.ext e)
      rw [hw'.2 i fun x hx => hn (by rw [← hx]; exact (ctx_emb n hc x).1)]
      exact hw i (by omega)
  · iexact HC

/-- Between blocks: the keys, the values, the room for the heads, and the output so far. -/
def Comp (c : Dev nD) (kB vB : Vec F S2x128x64x64 .f32) (acc : Vec F S256x512 .f32) : sProp 𝕄 :=
  iprop(Holds kM c fullShare kB ∗ Holds vM c fullShare vB ∗ Owns ctxM c ∗ Holds accM c fullShare acc)

/-- The four accesses that add a block's part to the output. -/
abbrev accOp (ha : ∀ a, (![0, 0] : Fin 2 → ℕ) a + S256x512.size a ≤ S256x512.size a)
    (hc : ∀ a, (![0, 0] : Fin 2 → ℕ) a + S256x256.size a ≤ S256x256.size a)
    (la : accM.view.LoadsAt (Rect.unit (s := S256x512) ![0, 0] S256x512.size ha).toLoadRect)
    (lc : ctxM.view.LoadsAt (Rect.unit (s := S256x256) ![0, 0] S256x256.size hc).toLoadRect)
    (la' : accM.view.LoadsAt (Rect.unit (s := S256x512) ![0, 0] S256x512.size ha).toLoadRect)
    (hx : (accM.access (Rect.unit (s := S256x512) ![0, 0] S256x512.size ha)).Stores Finset.univ)
    (hm : (Finset.univ : Finset (Rect.unit (s := S256x512) ![0, 0] S256x512.size ha).shape.Idx) = Finset.univ ∨ ∀ a, (Rect.unit (s := S256x512) ![0, 0] S256x512.size ha).stride a = 1)
    (pay : Vec F S256x512 .f32 → Vec F S256x256 .bf16 → FVec F S256x512 .f32)
    (k : PUnit → Prog (TpuEff nD τ sig (Elt F) Λ₀ .tc) α) : Prog (TpuEff nD τ sig (Elt F) Λ₀ .tc) α :=
  .op (.load accM (Rect.unit (s := S256x512) ![0, 0] S256x512.size ha).toLoadRect la) fun va =>
  .op (.load ctxM (Rect.unit (s := S256x256) ![0, 0] S256x256.size hc).toLoadRect lc) fun vc =>
  .op (.load accM (Rect.unit (s := S256x512) ![0, 0] S256x512.size ha).toLoadRect la') fun _ =>
  .op (.store accM (Rect.unit (s := S256x512) ![0, 0] S256x512.size ha) (pay va vc) Finset.univ hx hm) k

set_option maxHeartbeats 1000000 in
/-- Attention over one block, its eight heads one after the other, and its part added to the output. -/
theorem wp_block (c : Dev nD) (x2 : FVec F S256x512 .bf16) (aq : Vec F S1x512x256 .bf16) (ao : Vec F S1x256x512 .bf16)
    (kB vB : Vec F S2x128x64x64 .f32) (j : Fin 16) (acc : Vec F S256x512 .f32)
    {o0 o1 o2 o3 o4 o5 o6 o7 : Fin 4 → ℕ}
    {hk0 hc0 lk0 lv0 lc0 hx0 hm0}
    {hk1 hc1 lk1 lv1 lc1 hx1 hm1}
    {hk2 hc2 lk2 lv2 lc2 hx2 hm2}
    {hk3 hc3 lk3 lv3 lc3 hx3 hm3}
    {hk4 hc4 lk4 lv4 lc4 hx4 hm4}
    {hk5 hc5 lk5 lv5 lc5 hx5 hm5}
    {hk6 hc6 lk6 lv6 lc6 hx6 hm6}
    {hk7 hc7 lk7 lv7 lc7 hx7 hm7}
    {p0 p1 p2 p3 p4 p5 p6 p7 : Vec F S1x128x1x64 .f32 → Vec F S1x128x1x64 .f32 → FVec F S128x64 .bf16}
    {ha hc la lc la' hx hm} {pa : Vec F S256x512 .f32 → Vec F S256x256 .bf16 → FVec F S256x512 .f32}
    {k : PUnit → Prog (TpuEff nD τ sig (Elt F) Λ₀ .tc) α} {Q : α → sProp 𝕄}
    (e0 : o0 = ![0, 0, 4 * j.val + 0, 0])
    (e1 : o1 = ![0, 0, 4 * j.val + 1, 0])
    (e2 : o2 = ![0, 0, 4 * j.val + 2, 0])
    (e3 : o3 = ![0, 0, 4 * j.val + 3, 0])
    (e4 : o4 = ![1, 0, 4 * j.val + 0, 0])
    (e5 : o5 = ![1, 0, 4 * j.val + 1, 0])
    (e6 : o6 = ![1, 0, 4 * j.val + 2, 0])
    (e7 : o7 = ![1, 0, 4 * j.val + 3, 0])
    (h0 : ∀ vk vv, p0 vk vv = k0_pay60 (qAt (k0_pay57 x2 aq) 0) (k0_pay59 vk) vv)
    (h1 : ∀ vk vv, p1 vk vv = k0_pay60 (qAt (k0_pay57 x2 aq) 1) (k0_pay59 vk) vv)
    (h2 : ∀ vk vv, p2 vk vv = k0_pay60 (qAt (k0_pay57 x2 aq) 2) (k0_pay59 vk) vv)
    (h3 : ∀ vk vv, p3 vk vv = k0_pay60 (qAt (k0_pay57 x2 aq) 3) (k0_pay59 vk) vv)
    (h4 : ∀ vk vv, p4 vk vv = k0_pay60 (qAt (k0_pay57 x2 aq) 4) (k0_pay59 vk) vv)
    (h5 : ∀ vk vv, p5 vk vv = k0_pay60 (qAt (k0_pay57 x2 aq) 5) (k0_pay59 vk) vv)
    (h6 : ∀ vk vv, p6 vk vv = k0_pay60 (qAt (k0_pay57 x2 aq) 6) (k0_pay59 vk) vv)
    (h7 : ∀ vk vv, p7 vk vv = k0_pay60 (qAt (k0_pay57 x2 aq) 7) (k0_pay59 vk) vv)
    (h8 : ∀ va vc, pa va vc = k0_pay79 (k0_pay56 ao) va vc) :
    Comp c kB vB acc
      ⊢ iprop((Comp c kB vB (accStep x2 aq ao kB vB j acc) -∗ wpc c (k ⟨⟩) Q)
        -∗ wpc c (
        headOp o0 ![0, 0] hk0 hc0 lk0 lv0 lc0 hx0 hm0 p0 fun _ =>
        headOp o1 ![0, 64] hk1 hc1 lk1 lv1 lc1 hx1 hm1 p1 fun _ =>
        headOp o2 ![0, 128] hk2 hc2 lk2 lv2 lc2 hx2 hm2 p2 fun _ =>
        headOp o3 ![0, 192] hk3 hc3 lk3 lv3 lc3 hx3 hm3 p3 fun _ =>
        headOp o4 ![128, 0] hk4 hc4 lk4 lv4 lc4 hx4 hm4 p4 fun _ =>
        headOp o5 ![128, 64] hk5 hc5 lk5 lv5 lc5 hx5 hm5 p5 fun _ =>
        headOp o6 ![128, 128] hk6 hc6 lk6 lv6 lc6 hx6 hm6 p6 fun _ =>
        headOp o7 ![128, 192] hk7 hc7 lk7 lv7 lc7 hx7 hm7 p7 fun _ =>
        accOp ha hc la lc la' hx hm pa k) Q) := by
  unfold Comp
  iintro ⟨HK, HV, HC, HA⟩ Hk
  ihave HC := (owns_holds c ctxM) $$ HC
  icases HC with ⟨%w0, HC⟩
  ihave H : Heads c kB vB (att (k0_pay57 x2 aq) kB vB j) 0 $$ [HK HV HC]
  · unfold Heads CtxAt
    isplitl [HK]; · iexact HK
    isplitl [HV]; · iexact HV
    iexists w0
    isplitr [HC]
    · ipureintro; exact fun i hi => absurd hi (Nat.not_lt_zero _)
    · iexact HC
  iapply (wp_head c (k0_pay57 x2 aq) kB vB j 0 0 1 rfl rfl (offc := ![0, 0]) e0 rfl h0) $$ H
  iintro H
  iapply (wp_head c (k0_pay57 x2 aq) kB vB j 1 1 2 rfl rfl (offc := ![0, 64]) e1 rfl h1) $$ H
  iintro H
  iapply (wp_head c (k0_pay57 x2 aq) kB vB j 2 2 3 rfl rfl (offc := ![0, 128]) e2 rfl h2) $$ H
  iintro H
  iapply (wp_head c (k0_pay57 x2 aq) kB vB j 3 3 4 rfl rfl (offc := ![0, 192]) e3 rfl h3) $$ H
  iintro H
  iapply (wp_head c (k0_pay57 x2 aq) kB vB j 4 4 5 rfl rfl (offc := ![128, 0]) e4 rfl h4) $$ H
  iintro H
  iapply (wp_head c (k0_pay57 x2 aq) kB vB j 5 5 6 rfl rfl (offc := ![128, 64]) e5 rfl h5) $$ H
  iintro H
  iapply (wp_head c (k0_pay57 x2 aq) kB vB j 6 6 7 rfl rfl (offc := ![128, 128]) e6 rfl h6) $$ H
  iintro H
  iapply (wp_head c (k0_pay57 x2 aq) kB vB j 7 7 8 rfl rfl (offc := ![128, 192]) e7 rfl h7) $$ H
  iintro H
  unfold Heads CtxAt
  icases H with ⟨HK, HV, ⟨%w, %hw, HC⟩⟩
  have hw' : w = ctxOf (att (k0_pay57 x2 aq) kB vB j) := funext fun i => hw i (ctxHead i).isLt
  subst hw'
  iapply (wp_load_all (F := F) c (M := accM) (w := acc)) $$ HA
  iintro HA
  iapply (wp_load_all (F := F) c (M := ctxM) (w := ctxOf (att (k0_pay57 x2 aq) kB vB j))) $$ HC
  iintro HC
  iapply (wp_load_all (F := F) c (M := accM) (w := acc)) $$ HA
  iintro HA
  iapply (wp_store_all (F := F) c (M := accM) (w := acc)) $$ HA
  iintro HA
  rw [h8]
  iapply Hk
  isplitl [HK]; · iexact HK
  isplitl [HV]; · iexact HV
  isplitl [HC]; · iapply (holds_owns _ _ _); iexact HC
  iexact HA

end Heads

end Cert.KernelIdeal.Ring
-- ==== Proof.KernelIdeal.Sites.lean ====
/-
# 01_k — the steps at the kernel's own slots, semaphores and neighbours
-/
module

public import proofs.«01_k».proof.Proof.KernelIdeal.Compute

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is computed -/

/-! ## Slots, semaphores and neighbours as the kernel names them -/

section Names

theorem flat_q9 {off : Fin 3 → ℕ} {h : ∀ a, off a + S1x512x256.size a ≤ S9x512x256.size a} (s : Fin 9) (e : off = ![s.val, 0, 0]) :
    ((Memref.whole cc0_scratch0).slice (Rect.unit (s := S9x512x256) off S1x512x256.size h) (fun _ => rfl)).squeeze S512x256 squeezes_S1x512x256_S512x256 = flatM 0 s := by
  subst e; rfl
theorem flat_o9 {off : Fin 3 → ℕ} {h : ∀ a, off a + S1x256x512.size a ≤ S9x256x512.size a} (s : Fin 9) (e : off = ![s.val, 0, 0]) :
    ((Memref.whole cc0_scratch1).slice (Rect.unit (s := S9x256x512) off S1x256x512.size h) (fun _ => rfl)).squeeze S256x512 squeezes_S1x256x512_S256x512 = flatM 1 s := by
  subst e; rfl
theorem flat_q8 {off : Fin 3 → ℕ} {h : ∀ a, off a + S1x512x256.size a ≤ S8x512x256.size a} (s : Fin 8) (e : off = ![s.val, 0, 0]) :
    ((Memref.whole cc0_scratch2).slice (Rect.unit (s := S8x512x256) off S1x512x256.size h) (fun _ => rfl)).squeeze S512x256 squeezes_S1x512x256_S512x256 = flatM 2 s := by
  subst e; rfl
theorem flat_o8 {off : Fin 3 → ℕ} {h : ∀ a, off a + S1x256x512.size a ≤ S8x256x512.size a} (s : Fin 8) (e : off = ![s.val, 0, 0]) :
    ((Memref.whole cc0_scratch3).slice (Rect.unit (s := S8x256x512) off S1x256x512.size h) (fun _ => rfl)).squeeze S256x512 squeezes_S1x256x512_S256x512 = flatM 3 s := by
  subst e; rfl

theorem sem8_eq (a : DmaSems sig S8) {off : Fin 1 → ℕ} {h : ∀ x, off x + S1.size x ≤ S8.size x} (i : Fin 8) (e : off = ![i.val]) :
    ((a.slice (Rect.unit (s := S8) off S1.size h)).squeeze S_ squeezes_S1_S_).sem = sem8 a i := by subst e; rfl
theorem sem7_eq (a : DmaSems sig S7) {off : Fin 1 → ℕ} {h : ∀ x, off x + S1.size x ≤ S7.size x} (i : Fin 7) (e : off = ![i.val]) :
    ((a.slice (Rect.unit (s := S7) off S1.size h)).squeeze S_ squeezes_S1_S_).sem = sem7 a i := by subst e; rfl

/-- A device named by its number. -/
theorem dev_nxt (c : Dev nD) {n : ℕ} {h : n < nD} (e : n = (c.val + 1) % 16) : (⟨n, h⟩ : Dev nD) = nxt c := Fin.ext e
theorem dev_prv (c : Dev nD) {n : ℕ} {h : n < nD} (e : n = (c.val + 15) % 16) : (⟨n, h⟩ : Dev nD) = prv c := Fin.ext e

end Names

/-! ## Slots loaded -/

section LoadSlot
variable {α : Type}

theorem wp_load_q9 (c : Dev nD) (s : Fin 9) {q : PosShare TreeShare} {off : Fin 3 → ℕ} (e : off = ![s.val, 0, 0])
    {h : ∀ a, off a + S1x512x256.size a ≤ S9x512x256.size a} {hl : (Memref.whole cc0_scratch0).view.LoadsAt (Rect.unit (s := S9x512x256) off S1x512x256.size h).toLoadRect}
    {k : Vec F S1x512x256 .bf16 → Prog (TpuEff nD τ sig (Elt F) Λ₀ .tc) α} {Q : α → sProp 𝕄} :
    SlotHas m 0 c s q ⊢ iprop((SlotHas m 0 c s q -∗ wpc c (k (blk m 0 (org 0 s.val c))) Q)
      -∗ wpc c (.op (.load (Memref.whole cc0_scratch0) (Rect.unit (s := S9x512x256) off S1x512x256.size h).toLoadRect hl) k) Q) := by
  subst e; exact wp_load_slice c (hr := fun _ => rfl)
theorem wp_load_o9 (c : Dev nD) (s : Fin 9) {q : PosShare TreeShare} {off : Fin 3 → ℕ} (e : off = ![s.val, 0, 0])
    {h : ∀ a, off a + S1x256x512.size a ≤ S9x256x512.size a} {hl : (Memref.whole cc0_scratch1).view.LoadsAt (Rect.unit (s := S9x256x512) off S1x256x512.size h).toLoadRect}
    {k : Vec F S1x256x512 .bf16 → Prog (TpuEff nD τ sig (Elt F) Λ₀ .tc) α} {Q : α → sProp 𝕄} :
    SlotHas m 1 c s q ⊢ iprop((SlotHas m 1 c s q -∗ wpc c (k (blk m 1 (org 1 s.val c))) Q)
      -∗ wpc c (.op (.load (Memref.whole cc0_scratch1) (Rect.unit (s := S9x256x512) off S1x256x512.size h).toLoadRect hl) k) Q) := by
  subst e; exact wp_load_slice c (hr := fun _ => rfl)
theorem wp_load_q8 (c : Dev nD) (s : Fin 8) {q : PosShare TreeShare} {off : Fin 3 → ℕ} (e : off = ![s.val, 0, 0])
    {h : ∀ a, off a + S1x512x256.size a ≤ S8x512x256.size a} {hl : (Memref.whole cc0_scratch2).view.LoadsAt (Rect.unit (s := S8x512x256) off S1x512x256.size h).toLoadRect}
    {k : Vec F S1x512x256 .bf16 → Prog (TpuEff nD τ sig (Elt F) Λ₀ .tc) α} {Q : α → sProp 𝕄} :
    SlotHas m 2 c s q ⊢ iprop((SlotHas m 2 c s q -∗ wpc c (k (blk m 2 (org 2 s.val c))) Q)
      -∗ wpc c (.op (.load (Memref.whole cc0_scratch2) (Rect.unit (s := S8x512x256) off S1x512x256.size h).toLoadRect hl) k) Q) := by
  subst e; exact wp_load_slice c (hr := fun _ => rfl)
theorem wp_load_o8 (c : Dev nD) (s : Fin 8) {q : PosShare TreeShare} {off : Fin 3 → ℕ} (e : off = ![s.val, 0, 0])
    {h : ∀ a, off a + S1x256x512.size a ≤ S8x256x512.size a} {hl : (Memref.whole cc0_scratch3).view.LoadsAt (Rect.unit (s := S8x256x512) off S1x256x512.size h).toLoadRect}
    {k : Vec F S1x256x512 .bf16 → Prog (TpuEff nD τ sig (Elt F) Λ₀ .tc) α} {Q : α → sProp 𝕄} :
    SlotHas m 3 c s q ⊢ iprop((SlotHas m 3 c s q -∗ wpc c (k (blk m 3 (org 3 s.val c))) Q)
      -∗ wpc c (.op (.load (Memref.whole cc0_scratch3) (Rect.unit (s := S8x256x512) off S1x256x512.size h).toLoadRect hl) k) Q) := by
  subst e; exact wp_load_slice c (hr := fun _ => rfl)

end LoadSlot

/-! ## What is owed, hop by hop -/

theorem owedR_0 (c : Dev nD) (k0 k1 k2 k3 : ℕ) (h : k0 < 8) :
    owedR c k0 k1 k2 k3 = owedR c (k0 + 1) k1 k2 k3 + tallyAt (kcell (up 0 c) (CK.rcv ⟨0, ⟨k0, h⟩⟩)) () (NL 0) := by
  unfold owedR; rw [owedL_step 0 c ⟨k0, h⟩]; ac_rfl
theorem owedR_1 (c : Dev nD) (k0 k1 k2 k3 : ℕ) (h : k1 < 8) :
    owedR c k0 k1 k2 k3 = owedR c k0 (k1 + 1) k2 k3 + tallyAt (kcell (up 1 c) (CK.rcv ⟨1, ⟨k1, h⟩⟩)) () (NL 1) := by
  unfold owedR; rw [owedL_step 1 c ⟨k1, h⟩]; ac_rfl
theorem owedR_2 (c : Dev nD) (k0 k1 k2 k3 : ℕ) (h : k2 < 7) :
    owedR c k0 k1 k2 k3 = owedR c k0 k1 (k2 + 1) k3 + tallyAt (kcell (up 2 c) (CK.rcv ⟨2, ⟨k2, h⟩⟩)) () (NL 2) := by
  unfold owedR; rw [owedL_step 2 c ⟨k2, h⟩]; ac_rfl
theorem owedR_3 (c : Dev nD) (k0 k1 k2 k3 : ℕ) (h : k3 < 7) :
    owedR c k0 k1 k2 k3 = owedR c k0 k1 k2 (k3 + 1) + tallyAt (kcell (up 3 c) (CK.rcv ⟨3, ⟨k3, h⟩⟩)) () (NL 3) := by
  unfold owedR; rw [owedL_step 3 c ⟨k3, h⟩]; ac_rfl
theorem owedR_end (c : Dev nD) : owedR c 8 8 7 7 = 0 := by
  unfold owedR; rw [owedL_end 0 c, owedL_end 1 c, owedL_end 2 c, owedL_end 3 c]; simp only [add_zero]

/-- A semaphore of hop `h` may be waited for once the hops up to it are made. -/
theorem mayWait_snd (c : Dev nD) (l : Lane) (h : Fin (hops l)) (n : ℕ) :
    (levAts L lv : sProp 𝕄) ⊢ MayWait (c : Thread nD τ) (csem (CK.snd ⟨l, h⟩)) () (owedR c n n n n) :=
  mayWait_owedR c _ (le_refl _) (le_refl _) (le_refl _) (le_refl _)
    (lt_of_eq_of_lt (lv_k c (CK.snd ⟨l, h⟩) ()) (by show (0 : ℕ) < n + 2; omega))
theorem mayWait_rcv (c : Dev nD) (l : Lane) (h : Fin (hops l)) (n : ℕ) (hn : h.val < n) :
    (levAts L lv : sProp 𝕄) ⊢ MayWait (c : Thread nD τ) (csem (CK.rcv ⟨l, h⟩)) () (owedR c n n n n) :=
  mayWait_owedR c _ (le_refl _) (le_refl _) (le_refl _) (le_refl _)
    (lt_of_eq_of_lt (lv_k c (CK.rcv ⟨l, h⟩) ()) (by show h.val + 2 < n + 2; omega))
theorem mayWait_none (c : Dev nD) (ck : CK) : (levAts L lv : sProp 𝕄) ⊢ MayWait (c : Thread nD τ) (csem ck) () 0 := by
  rw [MayWait_zero]; iintro H; iempintro

/-! ## The output, block by block -/

/-- The place of device `d`'s block of heads. -/
def jOf (d : Dev nD) : Fin 16 := ⟨d.val, d.isLt⟩

/-- Device `d`'s block added to device `c`'s output. -/
abbrev accD (c d : Dev nD) (acc : Vec F S256x512 .f32) : Vec F S256x512 .f32 :=
  accStep (k0_pay54 (xA m c)) (k0_pay50 (wqA m d)) (k0_pay51 (woA m d)) (kvB m 0 c) (kvB m 1 c) (jOf d) acc

/-- The output after trip `t` of the ring. -/
def accAt (c : Dev nD) : ℕ → Vec F S256x512 .f32
  | 0 => accD m c (back 0 c) k0_pay55
  | t + 1 => accD m c (ahead (t + 1) c) (accD m c (back (t + 1) c) (accAt c t))

end Cert.KernelIdeal.Ring
-- ==== Proof.KernelIdeal.Trip.lean ====
/-
# 01_k — one trip of the ring
-/
module

public import proofs.«01_k».proof.Proof.KernelIdeal.Sites

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is computed -/

/-- A lane with slot `s` filled. -/
def laneN (l : Lane) (c : Dev nD) (s : ℕ) : sProp 𝕄 := if h : s < hops l + 1 then LaneAt m l c ⟨s, h⟩ else iprop(False)

theorem laneN_eq (l : Lane) (c : Dev nD) (s : ℕ) (h : s < hops l + 1) : laneN m l c s = LaneAt m l c ⟨s, h⟩ := dif_pos h

/-- Before trip `t`: the slots `t + 1` filled, the blocks at most `t` away added. -/
def Inv (K : Names) (c : Dev nD) (t : ℕ) : sProp 𝕄 :=
  iprop(records m K ∗ levAts L lv ∗ laneN m 0 c (t + 1) ∗ laneN m 1 c (t + 1) ∗ laneN m 2 c (t + 1) ∗ laneN m 3 c (t + 1)
    ∗ Comp c (kvB m 0 c) (kvB m 1 c) (accAt m c t) ∗ owesE c (owedR c (t + 1) (t + 1) (t + 1) (t + 1)))

theorem trips_six : k0_t1_loop.trips = 6 := by decide +kernel

theorem off_back (c : Dev nD) (t : Fin k0_t1_loop.trips) (r : Fin 4) :
    k0_off16 c t (BitVec.ofNat 32 r.val) = ![0, 0, 4 * (jOf (back (t.val + 1) c)).val + r.val, 0] := by
  have ht : t.val < 6 := trips_six ▸ t.isLt
  rw [k0_off16_eq, show (jOf (back (t.val + 1) c)).val = (c.val + 15 - t.val) % 16 from by show (c.val + (16 - (t.val + 1) % 16)) % 16 = _; omega]
theorem off_back' (c : Dev nD) (t : Fin k0_t1_loop.trips) (r : Fin 4) :
    k0_off17 c t (BitVec.ofNat 32 r.val) = ![1, 0, 4 * (jOf (back (t.val + 1) c)).val + r.val, 0] := by
  have ht : t.val < 6 := trips_six ▸ t.isLt
  rw [k0_off17_eq, show (jOf (back (t.val + 1) c)).val = (c.val + 15 - t.val) % 16 from by show (c.val + (16 - (t.val + 1) % 16)) % 16 = _; omega]
theorem off_ahead (c : Dev nD) (t : Fin k0_t1_loop.trips) (r : Fin 4) :
    k0_off20 c t (BitVec.ofNat 32 r.val) = ![0, 0, 4 * (jOf (ahead (t.val + 1) c)).val + r.val, 0] := by
  rw [k0_off20_eq, show (jOf (ahead (t.val + 1) c)).val = (c.val + t.val + 1) % 16 from by show (c.val + (t.val + 1)) % 16 = _; omega]
theorem off_ahead' (c : Dev nD) (t : Fin k0_t1_loop.trips) (r : Fin 4) :
    k0_off21 c t (BitVec.ofNat 32 r.val) = ![1, 0, 4 * (jOf (ahead (t.val + 1) c)).val + r.val, 0] := by
  rw [k0_off21_eq, show (jOf (ahead (t.val + 1) c)).val = (c.val + t.val + 1) % 16 from by show (c.val + (t.val + 1)) % 16 = _; omega]

section
variable (arg0 : Memref sig .tc .vmem S2x128x512 .f32) (harg0 : arg0.IsWhole) (arg1 : Memref sig .tc .vmem S512x256 .f32) (harg1 : arg1.IsWhole)
  (arg2 : Memref sig .tc .hbm S32x128x64x64 .f32) (harg2 : arg2.IsWhole) (arg3 : Memref sig .tc .hbm S32x128x64x64 .f32) (harg3 : arg3.IsWhole)
  (arg4 : Memref sig .tc .vmem S256x512 .f32) (harg4 : arg4.IsWhole) (arg5 : Memref sig .tc .vmem S2x128x512 .f32) (harg5 : arg5.IsWhole)

set_option maxHeartbeats 4000000 in
/-- One trip: every lane makes a hop while the two blocks at hand are attended to. -/
theorem trip (K : Names) (c : Dev nD) (v2 v5 v7 : BitVec 32) (t : Fin k0_t1_loop.trips) (u : Unit) :
    Inv m K c t.val ⊢ wpc c (k0_t1_body arg0 harg0 arg1 harg1 arg2 harg2 arg3 harg3 arg4 harg4 arg5 harg5
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      cc0_scratch8 cc0_scratch9 cc0_scratch10 cc0_scratch11 cc0_scratch12 cc0_scratch13 cc0_scratch14 cc0_scratch15 cc0_scratch16
      c v2 v5 v7 (k0_pay54 (xA m c)) t u) (fun _ => Inv m K c (t.val + 1)) := by
  have ht : t.val < 6 := trips_six ▸ t.isLt
  unfold Inv
  rw [laneN_eq m 0 c (t.val + 1) (by show _ < 9; omega), laneN_eq m 1 c (t.val + 1) (by show _ < 9; omega),
    laneN_eq m 2 c (t.val + 1) (by show _ < 8; omega), laneN_eq m 3 c (t.val + 1) (by show _ < 8; omega)]
  iintro ⟨#Hrec, #Hlev, H0, H1, H2, H3, HC, HO⟩
  unfold k0_t1_body
  simp only [k0_part17_eq_skeleton, k0_part17_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel,
    Prog.lift, Prog.bind_op, Prog.bind_ret, Prog.pure_eq_ret]
  -- the four sends
  iapply (wp_hop_send m K c 0 ⟨t.val + 1, by show _ < 8; omega⟩ (dev_nxt c (k0_dev7_eq c)) (flat_q9 ⟨t.val + 1, by omega⟩ (k0_off6_eq t)) (flat_q9 ⟨t.val + 2, by omega⟩ (k0_off5_eq t))
    (sem8_eq _ ⟨t.val + 1, by omega⟩ (k0_off4_eq t)) (sem8_eq _ ⟨t.val + 1, by omega⟩ (k0_off4_eq t)) (owedR_0 c _ _ _ _ (by omega))) $$ [H0 HO]
  · isplitr; · iexact Hrec
    isplitl [H0]; · iexact H0
    iexact HO
  iintro ⟨F0, S0, HO⟩
  iapply (wp_hop_send m K c 1 ⟨t.val + 1, by show _ < 8; omega⟩ (dev_nxt c (k0_dev8_eq c)) (flat_o9 ⟨t.val + 1, by omega⟩ (k0_off8_eq t)) (flat_o9 ⟨t.val + 2, by omega⟩ (k0_off7_eq t))
    (sem8_eq _ ⟨t.val + 1, by omega⟩ (k0_off4_eq t)) (sem8_eq _ ⟨t.val + 1, by omega⟩ (k0_off4_eq t)) (owedR_1 c _ _ _ _ (by omega))) $$ [H1 HO]
  · isplitr; · iexact Hrec
    isplitl [H1]; · iexact H1
    iexact HO
  iintro ⟨F1, S1, HO⟩
  iapply (wp_hop_send m K c 2 ⟨t.val + 1, by show _ < 7; omega⟩ (dev_prv c (k0_dev9_eq c)) (flat_q8 ⟨t.val + 1, by omega⟩ (k0_off11_eq t)) (flat_q8 ⟨t.val + 2, by omega⟩ (k0_off10_eq t))
    (sem7_eq _ ⟨t.val + 1, by omega⟩ (k0_off9_eq t)) (sem7_eq _ ⟨t.val + 1, by omega⟩ (k0_off9_eq t)) (owedR_2 c _ _ _ _ (by omega))) $$ [H2 HO]
  · isplitr; · iexact Hrec
    isplitl [H2]; · iexact H2
    iexact HO
  iintro ⟨F2, S2, HO⟩
  iapply (wp_hop_send m K c 3 ⟨t.val + 1, by show _ < 7; omega⟩ (dev_prv c (k0_dev10_eq c)) (flat_o8 ⟨t.val + 1, by omega⟩ (k0_off13_eq t)) (flat_o8 ⟨t.val + 2, by omega⟩ (k0_off12_eq t))
    (sem7_eq _ ⟨t.val + 1, by omega⟩ (k0_off9_eq t)) (sem7_eq _ ⟨t.val + 1, by omega⟩ (k0_off9_eq t)) (owedR_3 c _ _ _ _ (by omega))) $$ [H3 HO]
  · isplitr; · iexact Hrec
    isplitl [H3]; · iexact H3
    iexact HO
  iintro ⟨F3, S3, HO⟩
  -- the block from the left
  iapply (wp_load_q9 m c (⟨t.val + 1, _⟩ : Fin 8).castSucc (k0_off14_eq t)) $$ S0
  iintro S0
  iapply (wp_load_o9 m c (⟨t.val + 1, _⟩ : Fin 8).castSucc (k0_off15_eq t)) $$ S1
  iintro S1
  iapply (wp_block c (k0_pay54 (xA m c)) (k0_pay50 (wqA m (back (t.val + 1) c))) (k0_pay51 (woA m (back (t.val + 1) c))) (kvB m 0 c) (kvB m 1 c) (jOf (back (t.val + 1) c)) (accAt m c t.val)
    (off_back c t 0) (off_back c t 1) (off_back c t 2) (off_back c t 3) (off_back' c t 0) (off_back' c t 1) (off_back' c t 2) (off_back' c t 3)
    (fun _ _ => rfl) (fun _ _ => rfl) (fun _ _ => rfl) (fun _ _ => rfl) (fun _ _ => rfl) (fun _ _ => rfl) (fun _ _ => rfl) (fun _ _ => rfl) (fun _ _ => rfl)) $$ HC
  iintro HC
  -- the block from the right
  iapply (wp_load_q8 m c (⟨t.val + 1, _⟩ : Fin 7).castSucc (k0_off18_eq t)) $$ S2
  iintro S2
  iapply (wp_load_o8 m c (⟨t.val + 1, _⟩ : Fin 7).castSucc (k0_off19_eq t)) $$ S3
  iintro S3
  iapply (wp_block c (k0_pay54 (xA m c)) (k0_pay50 (wqA m (ahead (t.val + 1) c))) (k0_pay51 (woA m (ahead (t.val + 1) c))) (kvB m 0 c) (kvB m 1 c) (jOf (ahead (t.val + 1) c)) (accD m c (back (t.val + 1) c) (accAt m c t.val))
    (off_ahead c t 0) (off_ahead c t 1) (off_ahead c t 2) (off_ahead c t 3) (off_ahead' c t 0) (off_ahead' c t 1) (off_ahead' c t 2) (off_ahead' c t 3)
    (fun _ _ => rfl) (fun _ _ => rfl) (fun _ _ => rfl) (fun _ _ => rfl) (fun _ _ => rfl) (fun _ _ => rfl) (fun _ _ => rfl) (fun _ _ => rfl) (fun _ _ => rfl)) $$ HC
  iintro HC
  -- the eight waits
  iapply (wp_hop_wait_send m K c 0 ⟨t.val + 1, by show _ < 8; omega⟩ (flat_q9 ⟨t.val + 1, by omega⟩ (k0_off6_eq t)) (sem8_eq _ ⟨t.val + 1, by omega⟩ (k0_off4_eq t))
    (mayWait_snd c 0 _ (t.val + 2))) $$ [F0 S0 HO]
  · isplitr; · iexact Hrec
    isplitr; · iexact Hlev
    isplitl [F0]; · iexact F0
    isplitl [S0]; · iexact S0
    iexact HO
  iintro ⟨F0, HO⟩
  iapply (wp_hop_wait_recv m K c 0 ⟨t.val + 1, by show _ < 8; omega⟩ (flat_q9 ⟨t.val + 2, by omega⟩ (k0_off5_eq t)) (sem8_eq _ ⟨t.val + 1, by omega⟩ (k0_off4_eq t))
    (mayWait_rcv c 0 _ (t.val + 2) (Nat.lt_succ_self _))) $$ [F0 HO]
  · isplitr; · iexact Hrec
    isplitr; · iexact Hlev
    isplitl [F0]; · iexact F0
    iexact HO
  iintro ⟨H0, HO⟩
  iapply (wp_hop_wait_send m K c 1 ⟨t.val + 1, by show _ < 8; omega⟩ (flat_o9 ⟨t.val + 1, by omega⟩ (k0_off8_eq t)) (sem8_eq _ ⟨t.val + 1, by omega⟩ (k0_off4_eq t))
    (mayWait_snd c 1 _ (t.val + 2))) $$ [F1 S1 HO]
  · isplitr; · iexact Hrec
    isplitr; · iexact Hlev
    isplitl [F1]; · iexact F1
    isplitl [S1]; · iexact S1
    iexact HO
  iintro ⟨F1, HO⟩
  iapply (wp_hop_wait_recv m K c 1 ⟨t.val + 1, by show _ < 8; omega⟩ (flat_o9 ⟨t.val + 2, by omega⟩ (k0_off7_eq t)) (sem8_eq _ ⟨t.val + 1, by omega⟩ (k0_off4_eq t))
    (mayWait_rcv c 1 _ (t.val + 2) (Nat.lt_succ_self _))) $$ [F1 HO]
  · isplitr; · iexact Hrec
    isplitr; · iexact Hlev
    isplitl [F1]; · iexact F1
    iexact HO
  iintro ⟨H1, HO⟩
  iapply (wp_hop_wait_send m K c 2 ⟨t.val + 1, by show _ < 7; omega⟩ (flat_q8 ⟨t.val + 1, by omega⟩ (k0_off11_eq t)) (sem7_eq _ ⟨t.val + 1, by omega⟩ (k0_off9_eq t))
    (mayWait_snd c 2 _ (t.val + 2))) $$ [F2 S2 HO]
  · isplitr; · iexact Hrec
    isplitr; · iexact Hlev
    isplitl [F2]; · iexact F2
    isplitl [S2]; · iexact S2
    iexact HO
  iintro ⟨F2, HO⟩
  iapply (wp_hop_wait_recv m K c 2 ⟨t.val + 1, by show _ < 7; omega⟩ (flat_q8 ⟨t.val + 2, by omega⟩ (k0_off10_eq t)) (sem7_eq _ ⟨t.val + 1, by omega⟩ (k0_off9_eq t))
    (mayWait_rcv c 2 _ (t.val + 2) (Nat.lt_succ_self _))) $$ [F2 HO]
  · isplitr; · iexact Hrec
    isplitr; · iexact Hlev
    isplitl [F2]; · iexact F2
    iexact HO
  iintro ⟨H2, HO⟩
  iapply (wp_hop_wait_send m K c 3 ⟨t.val + 1, by show _ < 7; omega⟩ (flat_o8 ⟨t.val + 1, by omega⟩ (k0_off13_eq t)) (sem7_eq _ ⟨t.val + 1, by omega⟩ (k0_off9_eq t))
    (mayWait_snd c 3 _ (t.val + 2))) $$ [F3 S3 HO]
  · isplitr; · iexact Hrec
    isplitr; · iexact Hlev
    isplitl [F3]; · iexact F3
    isplitl [S3]; · iexact S3
    iexact HO
  iintro ⟨F3, HO⟩
  iapply (wp_hop_wait_recv m K c 3 ⟨t.val + 1, by show _ < 7; omega⟩ (flat_o8 ⟨t.val + 2, by omega⟩ (k0_off12_eq t)) (sem7_eq _ ⟨t.val + 1, by omega⟩ (k0_off9_eq t))
    (mayWait_rcv c 3 _ (t.val + 2) (Nat.lt_succ_self _))) $$ [F3 HO]
  · isplitr; · iexact Hrec
    isplitr; · iexact Hlev
    isplitl [F3]; · iexact F3
    iexact HO
  iintro ⟨H3, HO⟩
  iapply (wpc_ret c)
  rw [laneN_eq m 0 c (t.val + 1 + 1) (by show _ < 9; omega), laneN_eq m 1 c (t.val + 1 + 1) (by show _ < 9; omega),
    laneN_eq m 2 c (t.val + 1 + 1) (by show _ < 8; omega), laneN_eq m 3 c (t.val + 1 + 1) (by show _ < 8; omega)]
  isplitr; · iexact Hrec
  isplitr; · iexact Hlev
  isplitl [H0]; · iexact H0
  isplitl [H1]; · iexact H1
  isplitl [H2]; · iexact H2
  isplitl [H3]; · iexact H3
  isplitl [HC]; · iexact HC
  iexact HO
end

end Cert.KernelIdeal.Ring
-- ==== Proof.KernelIdeal.Entry.lean ====
/-
# 01_k — the local copies and the barrier
-/
module

public import proofs.«01_k».proof.Proof.KernelIdeal.Trip

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is computed -/

/-! ## The copies of the keys and the values -/

section Kv
variable {α : Type}

/-- What the copy of the keys (`0`) or the values (`1`) starts from. -/
def KvKit (i : Fin 2) (c : Dev nD) : sProp 𝕄 :=
  iprop(((kvSrc i c).view.loc (c : Thread nD τ) ↦[(kvSrc i c).view.set]{fullShare} m ((kvSrc i c).view.loc (c : Thread nD τ)))
    ∗ Owns (kvDst i) c ∗ dutyTok ER (kcell c (CK.kv i)) 0 false)

theorem credit_cr {sp : Space} {s : Shape} {e : EltTy} (M : Memref sig .tc sp s e) : M.view.dmaCredit = cr M := rfl
theorem credit_kv (i : Fin 2) : (kvDst i).view.dmaCredit = NKV i := credit_cr (kvDst i)
theorem amt_kv (i : Fin 2) : amt (CK.kv i) = NKV i := by unfold amt CK.kv; rfl
theorem amt_bar : amt CK.bar = 1 := by unfold amt CK.bar; rfl

theorem wp_kv_copy (K : Names) (c : Dev nD) (i : Fin 2) {src : Memref sig .tc .hbm S2x128x64x64 .f32} {dst : Memref sig .tc .vmem S2x128x64x64 .f32} {sem : DmaSem sig}
    (hs : sem = kvS i) (hsr : src = kvSrc i c) (hd : dst = kvDst i)
    {hsrc : src.view.WordExact} {hdst : dst.view.WordExact} {hsem : DmaTarget.Typed (nD := nD) .hbm (.dma sem) (DmaTarget.here (p := (.tc : Proc τ)) dst)}
    {k : PUnit → Prog (TpuEff nD τ sig (Elt F) Λ₀ .tc) α} {Q : α → sProp 𝕄} :
    iprop(records m K ∗ KvKit m i c)
      ⊢ iprop((cred (tallyAt (kcell c (CK.kv i)) () (NKV i)) -∗ wpc c (k ⟨⟩) Q)
        -∗ wpc c (.op (.enqueueDma src (.here dst) (.dma sem) hsrc hdst hsem) k) Q) := by
  subst hs hsr hd
  unfold KvKit Owns
  iintro ⟨#Hrec, Hsrc, ⟨%fd, Hdst⟩, Ht⟩ Hk
  ihave #Hs := (records_inv m K c (CK.kv i)) $$ Hrec
  icases Hs with ⟨HsI, HsR⟩
  iapply (Rounds.wp_copy_pointsTo 𝒱₀ ER (ringRd m) (c : Thread nD τ) none (κ := K (c, CK.kv i)) (r := 0) (d := false) (sem := .dma (kvS i))
    (src := kvSrc i c) (dst := kvDst i) (fd := fd) (fs := m ((kvSrc i c).view.loc (c : Thread nD τ))) (q := fullShare)
    (mem_dut m c (CK.kv i) rfl) () (NKV i) (credit_kv i) ((amount_k m c (CK.kv i) false).trans (amt_kv i)) ?_) $$ [Hsrc Hdst Ht]
  · rw [show ((c : Thread nD τ), SemLoc.dma (kvS i)) = kcell c (CK.kv i) from rfl, payload_k]
    show _ ⊢ kvPay m i c
    unfold kvPay Holds
    iintro ⟨HD, HS⟩
    isplitl [HD]
    · iexists _
      isplitr [HD]
      rotate_left
      · iexact HD
      · ipureintro; exact View.read_write_univ _ _
    · iexact HS
  · isplitr; · iexact HsI
    isplitl [Hsrc]; · iexact Hsrc
    isplitl [Hdst]; · iexact Hdst
    isplitl [Ht]; · iexact Ht
    iexact HsR
  iintro Hc
  iapply Hk
  iapply (show cred (tallyAt ((c : Thread nD τ), SemLoc.dma (kvS i)) () (NKV i)) ⊢ (cred (tallyAt (kcell c (CK.kv i)) () (NKV i)) : sProp 𝕄) from .rfl)
  iexact Hc

theorem wp_kv_wait (K : Names) (c : Dev nD) (i : Fin 2) {src : Memref sig .tc .hbm S2x128x64x64 .f32} {dst : Memref sig .tc .vmem S2x128x64x64 .f32} {sem : DmaSem sig}
    (hs : sem = kvS i) (hsr : src = kvSrc i c) (hd : dst = kvDst i) {O : CellTallies nD τ sig Unit}
    (hmay : (levAts L lv : sProp 𝕄) ⊢ MayWait (c : Thread nD τ) (csem (CK.kv i)) () O)
    {hsrc : src.view.WordExact} {hdst : dst.view.WordExact}
    {k : PUnit → Prog (TpuEff nD τ sig (Elt F) Λ₀ .tc) α} {Q : α → sProp 𝕄} :
    iprop(records m K ∗ levAts L lv ∗ cred (tallyAt (kcell c (CK.kv i)) () (NKV i)) ∗ atPos ER (kcell c (CK.kv i)) 0 ∅ 0 ∗ owesE c O)
      ⊢ iprop(((semVal (kcell c (CK.kv i)) 0 ∗ kvPay m i c ∗ owesE c O) -∗ wpc c (k ⟨⟩) Q)
        -∗ wpc c (.op (.waitDma2 sem src dst hsrc hdst) k) Q) := by
  subst hsr hd
  iintro ⟨Hr, Hl, Hc, Ha, HO⟩ Hk
  iapply (wp_wait_done m K c (CK.kv i) (N := NKV i) rfl (congrArg SemLoc.dma hs.symm) (amt_kv i) (credit_kv i) hmay) $$ [Hr Hl Hc Ha HO]
  · isplitl [Hr]; · iexact Hr
    isplitl [Hl]; · iexact Hl
    isplitl [Hc]; · iexact Hc
    isplitl [Ha]; · iexact Ha
    iexact HO
  iintro ⟨Hz, Hp, HO⟩
  iapply Hk
  isplitl [Hz]; · iexact Hz
  isplitl [Hp]; · iapply (show pay m (CK.kv i) c false ⊢ kvPay m i c from .rfl); iexact Hp
  iexact HO

end Kv

/-! ## The barrier -/

section Barrier
variable {α : Type}

/-- A signal to a neighbour, with what it hands over. -/
theorem wp_sig (K : Names) (c p : Dev nD) (d : Bool) {n : Dev nD} (hn : n = p) {O O' : CellTallies nD τ sig Unit}
    (hO : O' = O + tallyAt (kcell p CK.bar) () 1)
    {k : PUnit → Prog (TpuEff nD τ sig (Elt F) Λ₀ .tc) α} {Q : α → sProp 𝕄} :
    iprop(records m K ∗ dutyTok ER (kcell p CK.bar) 0 d ∗ barPay p d ∗ owesE c O')
      ⊢ iprop((owesE c O -∗ wpc c (k ⟨⟩) Q)
        -∗ wpc c (.op (.semSignal (Dev.tc n : Thread nD τ) barS (1#32 : BitVec 32).toInt) k) Q) := by
  subst hn
  unfold owesE
  rw [show (1#32 : BitVec 32).toInt = ((1 : ℕ) : Int) from rfl]
  iintro ⟨#Hrec, Ht, Hp, ⟨%W, HO⟩⟩ Hk
  ihave #Hs := (records_inv m K n CK.bar) $$ Hrec
  icases Hs with ⟨HsI, HsR⟩
  iapply (Rounds.wp_signal 𝒱₀ ER (ringRd m) (c : Thread nD τ) none (dst := (Dev.tc n : Thread nD τ)) (sem := barS) (κ := K (n, CK.bar)) (r := 0) (k' := 1)
    (d := d) (show d ∈ (ringRd m).duties (kcell n CK.bar) 0 by rw [duties_k]; exact Finset.mem_univ _) ((amount_k m n CK.bar d).trans amt_bar) () O hO) $$ [Ht Hp HO]
  · isplitr; · iexact HsI
    isplitl [HO]; · iexact HO
    isplitl [Ht]; · iexact Ht
    isplitl [Hp]
    · rw [show ((Dev.tc n : Thread nD τ), SemLoc.reg barS) = kcell n CK.bar from rfl, payload_k]
      iapply (show barPay n d ⊢ pay m CK.bar n d from .rfl)
      iexact Hp
    iexact HsR
  iintro HO
  iapply Hk
  iexists W; iexact HO

/-- The wait for both neighbours: what they hand over, and the barrier back at zero. -/
theorem wp_bar_wait (K : Names) (c : Dev nD) {O : CellTallies nD τ sig Unit}
    (hmay : (levAts L lv : sProp 𝕄) ⊢ MayWait (c : Thread nD τ) (csem CK.bar) () O)
    {k : PUnit → Prog (TpuEff nD τ sig (Elt F) Λ₀ .tc) α} {Q : α → sProp 𝕄} :
    iprop(records m K ∗ levAts L lv ∗ cred (tallyAt (kcell c CK.bar) () 2) ∗ atPos ER (kcell c CK.bar) 0 ∅ 0 ∗ owesE c O)
      ⊢ iprop(((semVal (kcell c CK.bar) 0 ∗ ((gather 2 (prv c) ∗ gather 3 (prv c)) ∗ (gather 0 (nxt c) ∗ gather 1 (nxt c))) ∗ owesE c O) -∗ wpc c (k ⟨⟩) Q)
        -∗ wpc c (.op (.semWait barS (2#32 : BitVec 32).toNat) k) Q) := by
  unfold owesE
  rw [show kcell c CK.bar = ((c : Thread nD τ), SemLoc.reg barS) from rfl]
  iintro ⟨#Hrec, #Hlev, Hc, Hat, ⟨%W, HO⟩⟩ Hk
  ihave #Hs := (records_inv m K c CK.bar) $$ Hrec
  icases Hs with ⟨HsI, HsR⟩
  iapply (Rounds.wp_wait_rest_token 𝒱₀ ER (ringRd m) (c : Thread nD τ) none (κ := K (c, CK.bar))
    (wpE_semWait_eq 𝒱₀ (c : Thread nD τ) none Set.univ) (Set.mem_univ _) () (O := O) (W := W) (R := 0) (m := 0) (T := ∅)
    (by rw [Nat.zero_add]; exact (expect_bar m c).symm)) $$ [Hc HO Hat]
  · isplitr; · iexact HsI
    isplitl [Hc]; · iexact Hc
    isplitl [HO]; · iexact HO
    isplitr; · iapply hmay; iexact Hlev
    iexact Hat
  iintro ⟨HO, Hat, -, Hpay⟩
  rw [show ((c : Thread nD τ), SemLoc.reg barS) = kcell c CK.bar from rfl]
  imod (Rounds.cell_close ER (ringRd m) (Set.mem_univ (K (c, CK.bar))) (fun h => h) (R := 0 + 1) (duties_later m (kcell c CK.bar))) $$ [Hat] with Hz
  · isplitr; · iexact HsI
    iexact Hat
  ihave Hpay := (Entails.of_eq (rest_bar m c)) $$ Hpay
  iapply Hk
  isplitl [Hz]; · iexact Hz
  isplitl [Hpay]; · iexact Hpay
  iexists _; iexact HO

end Barrier

end Cert.KernelIdeal.Ring
-- ==== Proof.KernelIdeal.Body.lean ====
/-
# 01_k — the body on one device
-/
module

public import proofs.«01_k».proof.Proof.KernelIdeal.Entry

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first slot of a lane -/

section Fill
variable {α : Type}

/-- A slice looked at and then stored over. -/
theorem wp_fill {cs : CoreSpace} {s : Shape} {e : EltTy} (c : Dev nD) {M : Memref sig .tc cs s e} {r : Rect s} {hr : ∀ a, r.stride a = 1} {hl : M.view.LoadsAt r.toLoadRect}
    {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    Owns (M.slice r hr) c ⊢ iprop((Holds (M.slice r hr) c fullShare w -∗ wpc c (k ⟨⟩) Q)
      -∗ wpc c (.op (.load M r.toLoadRect hl) fun _ => .op (.store M r w Finset.univ hx hm) k) Q) := by
  iintro H Hk
  iapply (wp_load_owns c) $$ H
  iintro %w' H
  iapply (wp_store_slice c) $$ H
  iexact Hk

theorem wp_fill_q9 (c : Dev nD) {h : ∀ a, (![0, 0, 0] : Fin 3 → ℕ) a + S1x512x256.size a ≤ S9x512x256.size a}
    {hl : (Memref.whole cc0_scratch0).view.LoadsAt (Rect.unit (s := S9x512x256) ![0, 0, 0] S1x512x256.size h).toLoadRect}
    {w : Vec F S1x512x256 .bf16} {hx : ((Memref.whole cc0_scratch0).access (Rect.unit (s := S9x512x256) ![0, 0, 0] S1x512x256.size h)).Stores Finset.univ}
    {hm : (Finset.univ : Finset (Rect.unit (s := S9x512x256) ![0, 0, 0] S1x512x256.size h).shape.Idx) = Finset.univ ∨ ∀ a, (Rect.unit (s := S9x512x256) ![0, 0, 0] S1x512x256.size h).stride a = 1}
    {k : PUnit → Prog (TpuEff nD τ sig (Elt F) Λ₀ .tc) α} {Q : α → sProp 𝕄} (hw : w = blk m 0 (org 0 0 c)) :
    Owns (slotM 0 0) c ⊢ iprop((SlotHas m 0 c 0 fullShare -∗ wpc c (k ⟨⟩) Q)
      -∗ wpc c (.op (.load (Memref.whole cc0_scratch0) (Rect.unit (s := S9x512x256) ![0, 0, 0] S1x512x256.size h).toLoadRect hl)
        fun _ => .op (.store (Memref.whole cc0_scratch0) (Rect.unit (s := S9x512x256) ![0, 0, 0] S1x512x256.size h) w Finset.univ hx hm) k) Q) := by
  subst hw; exact wp_fill c (hr := fun _ => rfl)
theorem wp_fill_o9 (c : Dev nD) {h : ∀ a, (![0, 0, 0] : Fin 3 → ℕ) a + S1x256x512.size a ≤ S9x256x512.size a}
    {hl : (Memref.whole cc0_scratch1).view.LoadsAt (Rect.unit (s := S9x256x512) ![0, 0, 0] S1x256x512.size h).toLoadRect}
    {w : Vec F S1x256x512 .bf16} {hx : ((Memref.whole cc0_scratch1).access (Rect.unit (s := S9x256x512) ![0, 0, 0] S1x256x512.size h)).Stores Finset.univ}
    {hm : (Finset.univ : Finset (Rect.unit (s := S9x256x512) ![0, 0, 0] S1x256x512.size h).shape.Idx) = Finset.univ ∨ ∀ a, (Rect.unit (s := S9x256x512) ![0, 0, 0] S1x256x512.size h).stride a = 1}
    {k : PUnit → Prog (TpuEff nD τ sig (Elt F) Λ₀ .tc) α} {Q : α → sProp 𝕄} (hw : w = blk m 1 (org 1 0 c)) :
    Owns (slotM 1 0) c ⊢ iprop((SlotHas m 1 c 0 fullShare -∗ wpc c (k ⟨⟩) Q)
      -∗ wpc c (.op (.load (Memref.whole cc0_scratch1) (Rect.unit (s := S9x256x512) ![0, 0, 0] S1x256x512.size h).toLoadRect hl)
        fun _ => .op (.store (Memref.whole cc0_scratch1) (Rect.unit (s := S9x256x512) ![0, 0, 0] S1x256x512.size h) w Finset.univ hx hm) k) Q) := by
  subst hw; exact wp_fill c (hr := fun _ => rfl)
theorem wp_fill_q8 (c : Dev nD) {h : ∀ a, (![0, 0, 0] : Fin 3 → ℕ) a + S1x512x256.size a ≤ S8x512x256.size a}
    {hl : (Memref.whole cc0_scratch2).view.LoadsAt (Rect.unit (s := S8x512x256) ![0, 0, 0] S1x512x256.size h).toLoadRect}
    {w : Vec F S1x512x256 .bf16} {hx : ((Memref.whole cc0_scratch2).access (Rect.unit (s := S8x512x256) ![0, 0, 0] S1x512x256.size h)).Stores Finset.univ}
    {hm : (Finset.univ : Finset (Rect.unit (s := S8x512x256) ![0, 0, 0] S1x512x256.size h).shape.Idx) = Finset.univ ∨ ∀ a, (Rect.unit (s := S8x512x256) ![0, 0, 0] S1x512x256.size h).stride a = 1}
    {k : PUnit → Prog (TpuEff nD τ sig (Elt F) Λ₀ .tc) α} {Q : α → sProp 𝕄} (hw : w = blk m 2 (org 2 0 c)) :
    Owns (slotM 2 0) c ⊢ iprop((SlotHas m 2 c 0 fullShare -∗ wpc c (k ⟨⟩) Q)
      -∗ wpc c (.op (.load (Memref.whole cc0_scratch2) (Rect.unit (s := S8x512x256) ![0, 0, 0] S1x512x256.size h).toLoadRect hl)
        fun _ => .op (.store (Memref.whole cc0_scratch2) (Rect.unit (s := S8x512x256) ![0, 0, 0] S1x512x256.size h) w Finset.univ hx hm) k) Q) := by
  subst hw; exact wp_fill c (hr := fun _ => rfl)
theorem wp_fill_o8 (c : Dev nD) {h : ∀ a, (![0, 0, 0] : Fin 3 → ℕ) a + S1x256x512.size a ≤ S8x256x512.size a}
    {hl : (Memref.whole cc0_scratch3).view.LoadsAt (Rect.unit (s := S8x256x512) ![0, 0, 0] S1x256x512.size h).toLoadRect}
    {w : Vec F S1x256x512 .bf16} {hx : ((Memref.whole cc0_scratch3).access (Rect.unit (s := S8x256x512) ![0, 0, 0] S1x256x512.size h)).Stores Finset.univ}
    {hm : (Finset.univ : Finset (Rect.unit (s := S8x256x512) ![0, 0, 0] S1x256x512.size h).shape.Idx) = Finset.univ ∨ ∀ a, (Rect.unit (s := S8x256x512) ![0, 0, 0] S1x256x512.size h).stride a = 1}
    {k : PUnit → Prog (TpuEff nD τ sig (Elt F) Λ₀ .tc) α} {Q : α → sProp 𝕄} (hw : w = blk m 3 (org 3 0 c)) :
    Owns (slotM 3 0) c ⊢ iprop((SlotHas m 3 c 0 fullShare -∗ wpc c (k ⟨⟩) Q)
      -∗ wpc c (.op (.load (Memref.whole cc0_scratch3) (Rect.unit (s := S8x256x512) ![0, 0, 0] S1x256x512.size h).toLoadRect hl)
        fun _ => .op (.store (Memref.whole cc0_scratch3) (Rect.unit (s := S8x256x512) ![0, 0, 0] S1x256x512.size h) w Finset.univ hx hm) k) Q) := by
  subst hw; exact wp_fill c (hr := fun _ => rfl)

end Fill

/-- What a lane starts from: its own slots and the ghost resources of its hops. -/
def LaneStart (l : Lane) (c : Dev nD) : sProp 𝕄 :=
  iprop(Owns (slotM l 0) c ∗ gather l c ∗ bigSep Finset.univ (fun h : Fin (hops l) => Kit l c h))

/-- A lane ready to run: its first slot filled, the slots of the neighbour it fills at hand. -/
theorem lane_ready (l : Lane) (c : Dev nD) :
    iprop(bigSep Finset.univ (fun h : Fin (hops l) => Kit l c h) ∗ gather l (up l c) ∗ SlotHas m l c 0 fullShare) ⊢ LaneAt m l c ⟨0, Nat.succ_pos _⟩ := by
  unfold LaneAt HopsAt gather
  iintro ⟨HK, HG, HS⟩
  isplitr [HS]
  · rw [bigSep_congr (fun i _ => if_neg (Nat.not_lt_zero _))]
    unfold KitP
    rw [bigSep_sep']
    isplitl [HK] <;> iassumption
  · iexact HS

/-! ## Where a device's heads lie among the keys and the values -/

theorem off_first (d : Dev nD) (r : Fin 4) : k0_off2 d 0#32 (BitVec.ofNat 32 r.val) = ![0, 0, 4 * (jOf (back 0 d)).val + r.val, 0] := by
  revert d r; decide +kernel
theorem off_first' (d : Dev nD) (r : Fin 4) : k0_off3 d 0#32 (BitVec.ofNat 32 r.val) = ![1, 0, 4 * (jOf (back 0 d)).val + r.val, 0] := by
  revert d r; decide +kernel
theorem off_seven (d : Dev nD) (r : Fin 4) : k0_off2 d 7#32 (BitVec.ofNat 32 r.val) = ![0, 0, 4 * (jOf (back 7 d)).val + r.val, 0] := by
  revert d r; decide +kernel
theorem off_seven' (d : Dev nD) (r : Fin 4) : k0_off3 d 7#32 (BitVec.ofNat 32 r.val) = ![1, 0, 4 * (jOf (back 7 d)).val + r.val, 0] := by
  revert d r; decide +kernel
theorem off_eight (d : Dev nD) (r : Fin 4) : k0_off2 d 8#32 (BitVec.ofNat 32 r.val) = ![0, 0, 4 * (jOf (back 8 d)).val + r.val, 0] := by
  revert d r; decide +kernel
theorem off_eight' (d : Dev nD) (r : Fin 4) : k0_off3 d 8#32 (BitVec.ofNat 32 r.val) = ![1, 0, 4 * (jOf (back 8 d)).val + r.val, 0] := by
  revert d r; decide +kernel
theorem off_right (d : Dev nD) (r : Fin 4) : k0_off22 d (BitVec.ofNat 32 r.val) = ![0, 0, 4 * (jOf (ahead 7 d)).val + r.val, 0] := k0_off22_eq d r
theorem off_right' (d : Dev nD) (r : Fin 4) : k0_off23 d (BitVec.ofNat 32 r.val) = ![1, 0, 4 * (jOf (ahead 7 d)).val + r.val, 0] := k0_off23_eq d r

/-! ## The body -/

/-- The output block of device `c`, before its reshape. -/
def accLast (c : Dev nD) : Vec F S256x512 .f32 := accD m c (back 8 c) (accD m c (ahead 7 c) (accD m c (back 7 c) (accAt m c 6)))

abbrev xM : Memref sig .tc .vmem S2x128x512 .f32 := Memref.whole cc0_stg0_0
abbrev wqM : Memref sig .tc .vmem S512x256 .f32 := Memref.whole cc0_stg1_0
abbrev woM : Memref sig .tc .vmem S256x512 .f32 := Memref.whole cc0_stg2_0
abbrev outM : Memref sig .tc .vmem S2x128x512 .f32 := Memref.whole cc0_stg3_0

/-- What a device starts from. -/
def Before (K : Names) (c : Dev nD) : sProp 𝕄 :=
  iprop(records m K ∗ levAts L lv ∗ Holds xM c fullShare (xA m c) ∗ Holds wqM c fullShare (wqA m c) ∗ Holds woM c fullShare (woA m c) ∗ Owns outM c
    ∗ KvKit m 0 c ∗ KvKit m 1 c ∗ atPos ER (kcell c (CK.kv 0)) 0 ∅ 0 ∗ atPos ER (kcell c (CK.kv 1)) 0 ∅ 0 ∗ Owns ctxM c ∗ Owns accM c
    ∗ dutyTok ER (kcell (prv c) CK.bar) 0 true ∗ dutyTok ER (kcell (nxt c) CK.bar) 0 false
    ∗ atPos ER (kcell c CK.bar) 0 ∅ 0 ∗ cred (tallyAt (kcell c CK.bar) () 2)
    ∗ LaneStart 0 c ∗ LaneStart 1 c ∗ LaneStart 2 c ∗ LaneStart 3 c ∗ owesE c (O₀ c))

/-- The keys' or the values' array, as read. -/
def KvSrc (i : Fin 2) (c : Dev nD) : sProp 𝕄 :=
  iprop((kvSrc i c).view.loc (c : Thread nD τ) ↦[(kvSrc i c).view.set]{fullShare} m ((kvSrc i c).view.loc (c : Thread nD τ)))

/-- What it ends with: its output block computed, every lane run to its last slot, every semaphore at zero, nothing owed. -/
def After (c : Dev nD) : sProp 𝕄 :=
  iprop(Holds xM c fullShare (xA m c) ∗ Holds wqM c fullShare (wqA m c) ∗ Holds woM c fullShare (woA m c) ∗ Holds outM c fullShare (k0_pay2 (accLast m c))
    ∗ KvSrc m 0 c ∗ KvSrc m 1 c ∗ semVal (kcell c (CK.kv 0)) 0 ∗ semVal (kcell c (CK.kv 1)) 0 ∗ semVal (kcell c CK.bar) 0
    ∗ Comp c (kvB m 0 c) (kvB m 1 c) (accLast m c) ∗ laneN m 0 c 8 ∗ laneN m 1 c 8 ∗ laneN m 2 c 7 ∗ laneN m 3 c 7 ∗ owesE c 0)

/-- The ring's first trip starts where the first hops end. -/
theorem inv_start (K : Names) (c : Dev nD) :
    iprop(records m K ∗ levAts L lv ∗ LaneAt m 0 c (⟨0, by decide⟩ : Fin (hops 0)).succ ∗ LaneAt m 1 c (⟨0, by decide⟩ : Fin (hops 1)).succ
      ∗ LaneAt m 2 c (⟨0, by decide⟩ : Fin (hops 2)).succ ∗ LaneAt m 3 c (⟨0, by decide⟩ : Fin (hops 3)).succ
      ∗ Comp c (kvB m 0 c) (kvB m 1 c) (accD m c (back 0 c) k0_pay55) ∗ owesE c (owedR c 1 1 1 1)) ⊢ Inv m K c 0 := by
  unfold Inv
  rw [laneN_eq m 0 c (0 + 1) (by decide), laneN_eq m 1 c (0 + 1) (by decide), laneN_eq m 2 c (0 + 1) (by decide), laneN_eq m 3 c (0 + 1) (by decide)]
  exact .rfl

/-- What its last trip leaves. -/
theorem inv_end (K : Names) (c : Dev nD) :
    Inv m K c k0_t1_loop.trips ⊢ iprop(LaneAt m 0 c (⟨7, by decide⟩ : Fin (hops 0)).castSucc ∗ LaneAt m 1 c (⟨7, by decide⟩ : Fin (hops 1)).castSucc
      ∗ LaneAt m 2 c ⟨7, by decide⟩ ∗ LaneAt m 3 c ⟨7, by decide⟩
      ∗ Comp c (kvB m 0 c) (kvB m 1 c) (accAt m c 6) ∗ owesE c (owedR c 7 7 7 7)) := by
  rw [trips_six]
  unfold Inv
  rw [laneN_eq m 0 c (6 + 1) (by decide), laneN_eq m 1 c (6 + 1) (by decide), laneN_eq m 2 c (6 + 1) (by decide), laneN_eq m 3 c (6 + 1) (by decide)]
  iintro ⟨-, -, H⟩
  iexact H

set_option maxHeartbeats 16000000 in
/-- The body on device `c`. -/
theorem body (K : Names) (c : Dev nD) :
    Before m K c ⊢ wpc c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16) (fun _ => After m c) := by
  unfold Before
  iintro ⟨#Hrec, #Hlev, Hx, Hwq, Hwo, Hout, Kk, Kv, Ak, Av, Hctx, Hacc, Tp, Tn, Ab, Cb, L0, L1, L2, L3, HO⟩
  unfold LaneStart
  icases L0 with ⟨E0, G0, K0⟩
  icases L1 with ⟨E1, G1, K1⟩
  icases L2 with ⟨E2, G2, K2⟩
  icases L3 with ⟨E3, G3, K3⟩
  simp only [cc0_body_eq_skeleton, cc0_body_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel,
    semSignalWord, semWaitWord, Prog.lift, Prog.bind_op, Prog.bind_ret, Prog.bind_assoc, Prog.pure_eq_ret, wp_deviceId]
  -- the copies of the keys and the values
  iapply (wp_kv_copy m K c 0 rfl rfl rfl) $$ [Kk]
  · isplitr; · iexact Hrec
    iexact Kk
  iintro Ck
  iapply (wp_kv_copy m K c 1 rfl rfl rfl) $$ [Kv]
  · isplitr; · iexact Hrec
    iexact Kv
  iintro Cv
  -- its own weights into the first slots
  iapply (wp_load_all c) $$ Hwq
  iintro Hwq
  iapply (wp_load_all c) $$ Hwo
  iintro Hwo
  iapply (wp_fill_q9 m c (by rw [org_zero]; rfl)) $$ E0
  iintro E0
  iapply (wp_fill_o9 m c (by rw [org_zero]; rfl)) $$ E1
  iintro E1
  iapply (wp_fill_q8 m c (by rw [org_zero]; rfl)) $$ E2
  iintro E2
  iapply (wp_fill_o8 m c (by rw [org_zero]; rfl)) $$ E3
  iintro E3
  -- the barrier
  iapply (wp_sig m K c (prv c) true (dev_prv c (k0_dev1_eq c)) (O := owedR c 0 0 0 0 + tallyAt (kcell (nxt c) CK.bar) () 1) rfl) $$ [Tp G0 G1 HO]
  · isplitr; · iexact Hrec
    isplitl [Tp]; · iexact Tp
    isplitr [HO]
    · unfold barPay
      rw [nxt_prv, if_pos rfl]
      isplitl [G0] <;> iassumption
    iexact HO
  iintro HO
  iapply (wp_sig m K c (nxt c) false (dev_nxt c (k0_dev2_eq c)) (O := owedR c 0 0 0 0) rfl) $$ [Tn G2 G3 HO]
  · isplitr; · iexact Hrec
    isplitl [Tn]; · iexact Tn
    isplitr [HO]
    · unfold barPay
      rw [prv_nxt, if_neg Bool.false_ne_true]
      isplitl [G2] <;> iassumption
    iexact HO
  iintro HO
  iapply (wp_bar_wait m K c (mayWait_owedR c _ (Nat.le_refl 0) (Nat.le_refl 0) (Nat.le_refl 0) (Nat.le_refl 0)
    (lt_of_eq_of_lt (lv_k c CK.bar ()) (by decide)))) $$ [Cb Ab HO]
  · isplitr; · iexact Hrec
    isplitr; · iexact Hlev
    isplitl [Cb]; · iexact Cb
    isplitl [Ab]; · iexact Ab
    iexact HO
  iintro ⟨Zb, ⟨⟨G2, G3⟩, ⟨G0, G1⟩⟩, HO⟩
  ihave H0 := (lane_ready m 0 c) $$ [K0 G0 E0]
  · isplitl [K0]; · iexact K0
    isplitl [G0]; · iexact G0
    iexact E0
  ihave H1 := (lane_ready m 1 c) $$ [K1 G1 E1]
  · isplitl [K1]; · iexact K1
    isplitl [G1]; · iexact G1
    iexact E1
  ihave H2 := (lane_ready m 2 c) $$ [K2 G2 E2]
  · isplitl [K2]; · iexact K2
    isplitl [G2]; · iexact G2
    iexact E2
  ihave H3 := (lane_ready m 3 c) $$ [K3 G3 E3]
  · isplitl [K3]; · iexact K3
    isplitl [G3]; · iexact G3
    iexact E3
  -- the keys and the values are in
  iapply (wp_load_all c) $$ Hx
  iintro Hx
  iapply (wp_kv_wait m K c 0 rfl rfl rfl (mayWait_owedR c _ (Nat.le_refl 0) (Nat.le_refl 0) (Nat.le_refl 0) (Nat.le_refl 0)
    (lt_of_eq_of_lt (lv_k c (CK.kv 0) ()) (by decide)))) $$ [Ck Ak HO]
  · isplitr; · iexact Hrec
    isplitr; · iexact Hlev
    isplitl [Ck]; · iexact Ck
    isplitl [Ak]; · iexact Ak
    iexact HO
  iintro ⟨Zk, Pk, HO⟩
  iapply (wp_kv_wait m K c 1 rfl rfl rfl (mayWait_owedR c _ (Nat.le_refl 0) (Nat.le_refl 0) (Nat.le_refl 0) (Nat.le_refl 0)
    (lt_of_eq_of_lt (lv_k c (CK.kv 1) ()) (by decide)))) $$ [Cv Av HO]
  · isplitr; · iexact Hrec
    isplitr; · iexact Hlev
    isplitl [Cv]; · iexact Cv
    isplitl [Av]; · iexact Av
    iexact HO
  iintro ⟨Zv, Pv, HO⟩
  unfold kvPay
  icases Pk with ⟨Pk, Rk⟩
  icases Pv with ⟨Pv, Rv⟩
  ihave Hacc := (owns_holds c accM) $$ Hacc
  icases Hacc with ⟨%a0, Hacc⟩
  iapply (wp_load_all c) $$ Hacc
  iintro Hacc
  iapply (wp_store_all c) $$ Hacc
  iintro Hacc
  ihave HC := (show iprop(Holds (kvDst 0) c fullShare (kvB m 0 c) ∗ Holds (kvDst 1) c fullShare (kvB m 1 c) ∗ Owns ctxM c ∗ Holds accM c fullShare k0_pay55)
    ⊢ Comp c (kvB m 0 c) (kvB m 1 c) k0_pay55 from .rfl) $$ [Pk Pv Hctx Hacc]
  · isplitl [Pk]; · iexact Pk
    isplitl [Pv]; · iexact Pv
    isplitl [Hctx]; · iexact Hctx
    iexact Hacc
  -- the first hops
  iapply (wp_hop_send m K c 0 ⟨0, by show _ < 8; omega⟩ (dev_nxt c (k0_dev3_eq c)) (flat_q9 ⟨0, by omega⟩ rfl) (flat_q9 ⟨1, by omega⟩ rfl)
    (sem8_eq _ ⟨0, by omega⟩ rfl) (sem8_eq _ ⟨0, by omega⟩ rfl) (owedR_0 c _ _ _ _ (by omega))) $$ [H0 HO]
  · isplitr; · iexact Hrec
    isplitl [H0]; · iexact H0
    iexact HO
  iintro ⟨F0, S0, HO⟩
  iapply (wp_hop_send m K c 1 ⟨0, by show _ < 8; omega⟩ (dev_nxt c (k0_dev4_eq c)) (flat_o9 ⟨0, by omega⟩ rfl) (flat_o9 ⟨1, by omega⟩ rfl)
    (sem8_eq _ ⟨0, by omega⟩ rfl) (sem8_eq _ ⟨0, by omega⟩ rfl) (owedR_1 c _ _ _ _ (by omega))) $$ [H1 HO]
  · isplitr; · iexact Hrec
    isplitl [H1]; · iexact H1
    iexact HO
  iintro ⟨F1, S1, HO⟩
  iapply (wp_hop_send m K c 2 ⟨0, by show _ < 7; omega⟩ (dev_prv c (k0_dev5_eq c)) (flat_q8 ⟨0, by omega⟩ rfl) (flat_q8 ⟨1, by omega⟩ rfl)
    (sem7_eq _ ⟨0, by omega⟩ rfl) (sem7_eq _ ⟨0, by omega⟩ rfl) (owedR_2 c _ _ _ _ (by omega))) $$ [H2 HO]
  · isplitr; · iexact Hrec
    isplitl [H2]; · iexact H2
    iexact HO
  iintro ⟨F2, S2, HO⟩
  iapply (wp_hop_send m K c 3 ⟨0, by show _ < 7; omega⟩ (dev_prv c (k0_dev6_eq c)) (flat_o8 ⟨0, by omega⟩ rfl) (flat_o8 ⟨1, by omega⟩ rfl)
    (sem7_eq _ ⟨0, by omega⟩ rfl) (sem7_eq _ ⟨0, by omega⟩ rfl) (owedR_3 c _ _ _ _ (by omega))) $$ [H3 HO]
  · isplitr; · iexact Hrec
    isplitl [H3]; · iexact H3
    iexact HO
  iintro ⟨F3, S3, HO⟩
  iapply (wp_load_q9 m c (⟨0, _⟩ : Fin 8).castSucc rfl) $$ S0
  iintro S0
  iapply (wp_load_o9 m c (⟨0, _⟩ : Fin 8).castSucc rfl) $$ S1
  iintro S1
  iapply (wp_block c (k0_pay54 (xA m c)) (k0_pay50 (wqA m (back 0 c))) (k0_pay51 (woA m (back 0 c))) (kvB m 0 c) (kvB m 1 c) (jOf (back 0 c)) (k0_pay55)
    (off_first c 0) (off_first c 1) (off_first c 2) (off_first c 3) (off_first' c 0) (off_first' c 1) (off_first' c 2) (off_first' c 3)
    (fun _ _ => rfl) (fun _ _ => rfl) (fun _ _ => rfl) (fun _ _ => rfl) (fun _ _ => rfl) (fun _ _ => rfl) (fun _ _ => rfl) (fun _ _ => rfl) (fun _ _ => rfl)) $$ HC
  iintro HC
  iapply (wp_hop_wait_send m K c 0 ⟨0, by show _ < 8; omega⟩ (flat_q9 ⟨0, by omega⟩ rfl) (sem8_eq _ ⟨0, by omega⟩ rfl)
    (mayWait_snd c 0 _ 1)) $$ [F0 S0 HO]
  · isplitr; · iexact Hrec
    isplitr; · iexact Hlev
    isplitl [F0]; · iexact F0
    isplitl [S0]; · iexact S0
    iexact HO
  iintro ⟨F0, HO⟩
  iapply (wp_hop_wait_recv m K c 0 ⟨0, by show _ < 8; omega⟩ (flat_q9 ⟨1, by omega⟩ rfl) (sem8_eq _ ⟨0, by omega⟩ rfl)
    (mayWait_rcv c 0 _ 1 (Nat.lt_succ_self _))) $$ [F0 HO]
  · isplitr; · iexact Hrec
    isplitr; · iexact Hlev
    isplitl [F0]; · iexact F0
    iexact HO
  iintro ⟨H0, HO⟩
  iapply (wp_hop_wait_send m K c 1 ⟨0, by show _ < 8; omega⟩ (flat_o9 ⟨0, by omega⟩ rfl) (sem8_eq _ ⟨0, by omega⟩ rfl)
    (mayWait_snd c 1 _ 1)) $$ [F1 S1 HO]
  · isplitr; · iexact Hrec
    isplitr; · iexact Hlev
    isplitl [F1]; · iexact F1
    isplitl [S1]; · iexact S1
    iexact HO
  iintro ⟨F1, HO⟩
  iapply (wp_hop_wait_recv m K c 1 ⟨0, by show _ < 8; omega⟩ (flat_o9 ⟨1, by omega⟩ rfl) (sem8_eq _ ⟨0, by omega⟩ rfl)
    (mayWait_rcv c 1 _ 1 (Nat.lt_succ_self _))) $$ [F1 HO]
  · isplitr; · iexact Hrec
    isplitr; · iexact Hlev
    isplitl [F1]; · iexact F1
    iexact HO
  iintro ⟨H1, HO⟩
  iapply (wp_hop_wait_send m K c 2 ⟨0, by show _ < 7; omega⟩ (flat_q8 ⟨0, by omega⟩ rfl) (sem7_eq _ ⟨0, by omega⟩ rfl)
    (mayWait_snd c 2 _ 1)) $$ [F2 S2 HO]
  · isplitr; · iexact Hrec
    isplitr; · iexact Hlev
    isplitl [F2]; · iexact F2
    isplitl [S2]; · iexact S2
    iexact HO
  iintro ⟨F2, HO⟩
  iapply (wp_hop_wait_recv m K c 2 ⟨0, by show _ < 7; omega⟩ (flat_q8 ⟨1, by omega⟩ rfl) (sem7_eq _ ⟨0, by omega⟩ rfl)
    (mayWait_rcv c 2 _ 1 (Nat.lt_succ_self _))) $$ [F2 HO]
  · isplitr; · iexact Hrec
    isplitr; · iexact Hlev
    isplitl [F2]; · iexact F2
    iexact HO
  iintro ⟨H2, HO⟩
  iapply (wp_hop_wait_send m K c 3 ⟨0, by show _ < 7; omega⟩ (flat_o8 ⟨0, by omega⟩ rfl) (sem7_eq _ ⟨0, by omega⟩ rfl)
    (mayWait_snd c 3 _ 1)) $$ [F3 S3 HO]
  · isplitr; · iexact Hrec
    isplitr; · iexact Hlev
    isplitl [F3]; · iexact F3
    isplitl [S3]; · iexact S3
    iexact HO
  iintro ⟨F3, HO⟩
  iapply (wp_hop_wait_recv m K c 3 ⟨0, by show _ < 7; omega⟩ (flat_o8 ⟨1, by omega⟩ rfl) (sem7_eq _ ⟨0, by omega⟩ rfl)
    (mayWait_rcv c 3 _ 1 (Nat.lt_succ_self _))) $$ [F3 HO]
  · isplitr; · iexact Hrec
    isplitr; · iexact Hlev
    isplitl [F3]; · iexact F3
    iexact HO
  iintro ⟨H3, HO⟩
  -- the ring
  ihave HI := (inv_start m K c) $$ [H0 H1 H2 H3 HC HO]
  · isplitr; · iexact Hrec
    isplitr; · iexact Hlev
    isplitl [H0]; · iexact H0
    isplitl [H1]; · iexact H1
    isplitl [H2]; · iexact H2
    isplitl [H3]; · iexact H3
    isplitl [HC]; · iexact HC
    iexact HO
  iapply (Scf.wp_for_bind frame (wpE (defs₀ (F := F)) 𝒱₀ (c : Thread nD τ) none) Set.univ k0_t1_loop.lb k0_t1_loop.ub k0_t1_loop.st k0_t1_ok ⟨⟩ _
    (fun t _ => Inv m K c t) (fun t u => trip m (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) K c _ _ _ t u)) $$ HI
  iintro %_ HI
  ihave HI := (inv_end m K c) $$ HI
  icases HI with ⟨H0, H1, H2, H3, HC, HO⟩
  -- the last hops to the right
  iapply (wp_hop_send m K c 0 ⟨7, by show _ < 8; omega⟩ (dev_nxt c (k0_dev11_eq c)) (flat_q9 ⟨7, by omega⟩ rfl) (flat_q9 ⟨8, by omega⟩ rfl)
    (sem8_eq _ ⟨7, by omega⟩ rfl) (sem8_eq _ ⟨7, by omega⟩ rfl) (owedR_0 c _ _ _ _ (by omega))) $$ [H0 HO]
  · isplitr; · iexact Hrec
    isplitl [H0]; · iexact H0
    iexact HO
  iintro ⟨F0, S0, HO⟩
  iapply (wp_hop_send m K c 1 ⟨7, by show _ < 8; omega⟩ (dev_nxt c (k0_dev12_eq c)) (flat_o9 ⟨7, by omega⟩ rfl) (flat_o9 ⟨8, by omega⟩ rfl)
    (sem8_eq _ ⟨7, by omega⟩ rfl) (sem8_eq _ ⟨7, by omega⟩ rfl) (owedR_1 c _ _ _ _ (by omega))) $$ [H1 HO]
  · isplitr; · iexact Hrec
    isplitl [H1]; · iexact H1
    iexact HO
  iintro ⟨F1, S1, HO⟩
  iapply (wp_load_q9 m c (⟨7, _⟩ : Fin 8).castSucc rfl) $$ S0
  iintro S0
  iapply (wp_load_o9 m c (⟨7, _⟩ : Fin 8).castSucc rfl) $$ S1
  iintro S1
  iapply (wp_block c (k0_pay54 (xA m c)) (k0_pay50 (wqA m (back 7 c))) (k0_pay51 (woA m (back 7 c))) (kvB m 0 c) (kvB m 1 c) (jOf (back 7 c)) (accAt m c 6)
    (off_seven c 0) (off_seven c 1) (off_seven c 2) (off_seven c 3) (off_seven' c 0) (off_seven' c 1) (off_seven' c 2) (off_seven' c 3)
    (fun _ _ => rfl) (fun _ _ => rfl) (fun _ _ => rfl) (fun _ _ => rfl) (fun _ _ => rfl) (fun _ _ => rfl) (fun _ _ => rfl) (fun _ _ => rfl) (fun _ _ => rfl)) $$ HC
  iintro HC
  unfold LaneAt
  icases H2 with ⟨H2, S2⟩
  icases H3 with ⟨H3, S3⟩
  iapply (wp_load_q8 m c (⟨7, _⟩ : Fin 8) rfl) $$ S2
  iintro S2
  iapply (wp_load_o8 m c (⟨7, _⟩ : Fin 8) rfl) $$ S3
  iintro S3
  iapply (wp_block c (k0_pay54 (xA m c)) (k0_pay50 (wqA m (ahead 7 c))) (k0_pay51 (woA m (ahead 7 c))) (kvB m 0 c) (kvB m 1 c) (jOf (ahead 7 c)) (accD m c (back 7 c) (accAt m c 6))
    (off_right c 0) (off_right c 1) (off_right c 2) (off_right c 3) (off_right' c 0) (off_right' c 1) (off_right' c 2) (off_right' c 3)
    (fun _ _ => rfl) (fun _ _ => rfl) (fun _ _ => rfl) (fun _ _ => rfl) (fun _ _ => rfl) (fun _ _ => rfl) (fun _ _ => rfl) (fun _ _ => rfl) (fun _ _ => rfl)) $$ HC
  iintro HC
  ihave HO := (show owesE c (owedR c (7 + 1) (7 + 1) 7 7) ⊢ owesE (F := F) c 0 from Entails.of_eq (congrArg (owesE c) (owedR_end c))) $$ HO
  iapply (wp_hop_wait_send m K c 0 ⟨7, by show _ < 8; omega⟩ (flat_q9 ⟨7, by omega⟩ rfl) (sem8_eq _ ⟨7, by omega⟩ rfl)
    (mayWait_none c _)) $$ [F0 S0 HO]
  · isplitr; · iexact Hrec
    isplitr; · iexact Hlev
    isplitl [F0]; · iexact F0
    isplitl [S0]; · iexact S0
    iexact HO
  iintro ⟨F0, HO⟩
  iapply (wp_hop_wait_recv m K c 0 ⟨7, by show _ < 8; omega⟩ (flat_q9 ⟨8, by omega⟩ rfl) (sem8_eq _ ⟨7, by omega⟩ rfl)
    (mayWait_none c _)) $$ [F0 HO]
  · isplitr; · iexact Hrec
    isplitr; · iexact Hlev
    isplitl [F0]; · iexact F0
    iexact HO
  iintro ⟨H0, HO⟩
  iapply (wp_hop_wait_send m K c 1 ⟨7, by show _ < 8; omega⟩ (flat_o9 ⟨7, by omega⟩ rfl) (sem8_eq _ ⟨7, by omega⟩ rfl)
    (mayWait_none c _)) $$ [F1 S1 HO]
  · isplitr; · iexact Hrec
    isplitr; · iexact Hlev
    isplitl [F1]; · iexact F1
    isplitl [S1]; · iexact S1
    iexact HO
  iintro ⟨F1, HO⟩
  iapply (wp_hop_wait_recv m K c 1 ⟨7, by show _ < 8; omega⟩ (flat_o9 ⟨8, by omega⟩ rfl) (sem8_eq _ ⟨7, by omega⟩ rfl)
    (mayWait_none c _)) $$ [F1 HO]
  · isplitr; · iexact Hrec
    isplitr; · iexact Hlev
    isplitl [F1]; · iexact F1
    iexact HO
  iintro ⟨H1, HO⟩
  unfold LaneAt
  icases H0 with ⟨H0, S0⟩
  icases H1 with ⟨H1, S1⟩
  iapply (wp_load_q9 m c (⟨7, _⟩ : Fin 8).succ rfl) $$ S0
  iintro S0
  iapply (wp_load_o9 m c (⟨7, _⟩ : Fin 8).succ rfl) $$ S1
  iintro S1
  iapply (wp_block c (k0_pay54 (xA m c)) (k0_pay50 (wqA m (back 8 c))) (k0_pay51 (woA m (back 8 c))) (kvB m 0 c) (kvB m 1 c) (jOf (back 8 c)) (accD m c (ahead 7 c) (accD m c (back 7 c) (accAt m c 6)))
    (off_eight c 0) (off_eight c 1) (off_eight c 2) (off_eight c 3) (off_eight' c 0) (off_eight' c 1) (off_eight' c 2) (off_eight' c 3)
    (fun _ _ => rfl) (fun _ _ => rfl) (fun _ _ => rfl) (fun _ _ => rfl) (fun _ _ => rfl) (fun _ _ => rfl) (fun _ _ => rfl) (fun _ _ => rfl) (fun _ _ => rfl)) $$ HC
  iintro HC
  -- the output block
  unfold Comp
  icases HC with ⟨Ck, Cv, Hctx, Hacc⟩
  iapply (wp_load_all c) $$ Hacc
  iintro Hacc
  ihave Hout := (owns_holds c outM) $$ Hout
  icases Hout with ⟨%o0, Hout⟩
  iapply (wp_load_all c) $$ Hout
  iintro Hout
  iapply (wp_store_all c) $$ Hout
  iintro Hout
  iapply (wpc_ret c)
  unfold After Comp KvSrc
  rw [laneN_eq m 0 c 8 (by decide), laneN_eq m 1 c 8 (by decide), laneN_eq m 2 c 7 (by decide), laneN_eq m 3 c 7 (by decide)]
  unfold LaneAt
  isplitl [Hx]; · iexact Hx
  isplitl [Hwq]; · iexact Hwq
  isplitl [Hwo]; · iexact Hwo
  isplitl [Hout]; · iexact Hout
  isplitl [Rk]; · iexact Rk
  isplitl [Rv]; · iexact Rv
  isplitl [Zk]; · iexact Zk
  isplitl [Zv]; · iexact Zv
  isplitl [Zb]; · iexact Zb
  isplitl [Ck Cv Hctx Hacc]
  · isplitl [Ck]; · iexact Ck
    isplitl [Cv]; · iexact Cv
    isplitl [Hctx]; · iexact Hctx
    iexact Hacc
  isplitl [H0 S0]
  · isplitl [H0]; · iexact H0
    iexact S0
  isplitl [H1 S1]
  · isplitl [H1]; · iexact H1
    iexact S1
  isplitl [H2 S2]
  · isplitl [H2]; · iexact H2
    iexact S2
  isplitl [H3 S3]
  · isplitl [H3]; · iexact H3
    iexact S3
  iexact HO

end Cert.KernelIdeal.Ring
-- ==== Proof.KernelIdeal.Ghost.lean ====
/-
# 01_k — the ghost state at launch
-/
module

public import proofs.«01_k».proof.Proof.KernelIdeal.Hops

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens minted -/

/-- The kernel's own semaphores: all its cells but the barrier's. -/
def osem (k : Fin 2 ⊕ (Hop ⊕ Hop)) : SemLoc sig := csem (.inr k)

theorem ownSemFacts : Pipeline.OwnSemFacts cfg0.spec osem := by decide +kernel

theorem kcell_inj : Function.Injective (fun p : Dev nD × CK => kcell p.1 p.2) := by
  rintro ⟨c, k⟩ ⟨c', k'⟩ h
  have h1 : c = c' := congrArg (fun g : GSem nD τ sig => g.1.1) h
  have h2 : k = k' := csem_inj (congrArg Prod.snd h)
  rw [h1, h2]
theorem kcell_eq_iff {a b : Dev nD} {k k' : CK} : Iff (kcell a k = kcell b k') (a = b ∧ k = k') :=
  ⟨fun h => Prod.mk.inj (kcell_inj (a₁ := (a, k)) (a₂ := (b, k')) h), fun h => by rw [h.1, h.2]⟩

def ringCells : Finset (GSem nD τ sig) := Finset.univ.map ⟨fun p : Dev nD × CK => kcell p.1 p.2, kcell_inj⟩

/-- The duties: one at each cell, and a second at the barrier. -/
abbrev Duty : Type := CK ⊕ Unit
def tokOf (p : Dev nD × Duty) : GSem nD τ sig × ℕ × Bool := match p.2 with
  | .inl k => (kcell p.1 k, 0, false)
  | .inr _ => (kcell p.1 CK.bar, 0, true)
theorem tokOf_inj : Function.Injective tokOf := by
  rintro ⟨c, j⟩ ⟨c', j'⟩ h
  rcases j with k | _ <;> rcases j' with k' | _
  · have h1 : kcell c k = kcell c' k' := congrArg Prod.fst h
    obtain ⟨rfl, rfl⟩ := kcell_eq_iff.mp h1
    rfl
  · exact absurd (congrArg (fun x : GSem nD τ sig × ℕ × Bool => x.2.2) h) Bool.false_ne_true
  · exact absurd (congrArg (fun x : GSem nD τ sig × ℕ × Bool => x.2.2) h).symm Bool.false_ne_true
  · have h1 : kcell c CK.bar = kcell c' CK.bar := congrArg Prod.fst h
    rw [(kcell_eq_iff.mp h1).1]
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- The tokens of device `c`'s own cells. -/
def toks (c : Dev nD) : sProp 𝕄 :=
  iprop((bigSep Finset.univ fun k : CK => dutyTok ER (kcell c k) 0 false) ∗ dutyTok ER (kcell c CK.bar) 0 true)

/-- The tokens device `c` pays with. -/
def payToks (c : Dev nD) : sProp 𝕄 :=
  iprop(dutyTok ER (kcell (nxt c) CK.bar) 0 false ∗ dutyTok ER (kcell (prv c) CK.bar) 0 true
    ∗ (bigSep Finset.univ fun i : Fin 2 => dutyTok ER (kcell c (CK.kv i)) 0 false)
    ∗ (bigSep Finset.univ fun x : Hop => dutyTok ER (kcell c (CK.snd x)) 0 false)
    ∗ (bigSep Finset.univ fun x : Hop => dutyTok ER (kcell (up x.1 c) (CK.rcv x)) 0 false))

/-- What the launch deals device `c`, and what it makes of it together with the others. -/
def G (c : Dev nD) : sProp 𝕄 :=
  iprop((bigSep Finset.univ fun k : CK => roundState ER (ringRd m) (kcell c k) 0)
    ∗ (bigSep Finset.univ fun k : CK => iprop(atPos ER (kcell c k) 0 ∅ 0 ∗ reached ER (kcell c k) 0)) ∗ toks c)
def linear (c : Dev nD) : sProp 𝕄 := iprop((bigSep Finset.univ fun k : CK => atPos ER (kcell c k) 0 ∅ 0) ∗ payToks c)
def G' (c : Dev nD) : sProp 𝕄 := iprop(∃ K, records m K ∗ linear c)

omit [FloatOps F] in
/-- A conjunction over the cells, kind by kind. -/
theorem bigSep_ck (Φ : CK → sProp 𝕄) : bigSep Finset.univ Φ
    = iprop(Φ CK.bar ∗ (bigSep Finset.univ fun i : Fin 2 => Φ (CK.kv i)) ∗ (bigSep Finset.univ fun x : Hop => Φ (CK.snd x))
      ∗ (bigSep Finset.univ fun x : Hop => Φ (CK.rcv x))) := by
  rw [bigSep_univ_sum, bigSep_univ_sum, bigSep_univ_sum, Finset.univ_unique, bigSep_singleton]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, Finset.univ_unique (α := Unit), bigSep_singleton]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

omit [FloatOps F] in
theorem unscopedSems0_eq (c : Dev nD) : (unscopedSems0 c : sProp 𝕄) = semVal (kcell c CK.bar) 0 := by
  unfold unscopedSems0; rw [bigSep_eq_bigSepL_of_eq [SemLoc.reg barS] (by decide +kernel) (by decide)]; rfl

omit [FloatOps F] in
/-- The barrier's counter and the kernel's own are those of all the cells. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell c k) 0 : sProp 𝕄) := by
  rw [unscopedSems0_eq, bigSep_univ_sum, Finset.univ_unique (α := Unit), bigSep_singleton]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell c k)))
          ∗ (bigSep Finset.univ fun k => iprop(atPos ER (kcell c k) 0 ∅ 0 ∗ reached ER (kcell c k) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : CK => semVal (kcell c k) 0) ∗ bigSep Finset.univ fun k : CK => roundState ER (ringRd m) (kcell c k) 0)
      ⊢ (|={Set.univ}=> bigSep Finset.univ fun k => iprop(∃ κ : ℕ, cellInv ER (ringRd m) κ (kcell c k)) : sProp 𝕄) from by
        rw [← bigSep_sep']
        exact (bigSep_mono fun k _ => (Rounds.body_intro ER (ringRd m) (kcell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The receive tokens of every device go to the neighbours that pay them. -/
theorem rcv_around : (bigSep Finset.univ fun c : Dev nD => bigSep Finset.univ fun x : Hop => (dutyTok ER (kcell c (CK.rcv x)) 0 false : sProp 𝕄))
    = bigSep Finset.univ fun c : Dev nD => bigSep Finset.univ fun x : Hop => dutyTok ER (kcell (up x.1 c) (CK.rcv x)) 0 false := by
  rw [bigSep_univ_comm, bigSep_congr (s := Finset.univ) fun (x : Hop) _ =>
    bigSep_univ_equiv (laneE x.1) fun c : Dev nD => (dutyTok ER (kcell c (CK.rcv x)) 0 false : sProp 𝕄), bigSep_univ_comm]
  rfl

omit [FloatOps F] in
/-- The tokens dealt around the ring. -/
theorem toks_around : (bigSep Finset.univ fun c : Dev nD => (toks c : sProp 𝕄)) ⊢ bigSep Finset.univ fun c : Dev nD => payToks c := by
  unfold toks payToks
  simp only [bigSep_ck]
  rw [bigSep_sep', bigSep_sep', bigSep_sep', bigSep_sep', bigSep_sep', bigSep_sep', bigSep_sep', bigSep_sep', rcv_around,
    bigSep_univ_equiv ringE (fun c : Dev nD => (dutyTok ER (kcell c CK.bar) 0 false : sProp 𝕄)),
    bigSep_univ_equiv ringE.symm (fun c : Dev nD => (dutyTok ER (kcell c CK.bar) 0 true : sProp 𝕄))]
  iintro ⟨⟨H1, H2, H3, H4⟩, H5⟩
  isplitl [H1]; · iexact H1
  isplitl [H5]; · iexact H5
  isplitl [H2]; · iexact H2
  isplitl [H3]; · iexact H3
  iexact H4

theorem ghost_intro (K : Names) (c : Dev nD) : iprop(records m K ∗ linear c) ⊢ G' m c := by
  unfold G'
  iintro H
  iexists K
  iexact H

/-- A persistent assertion handed to every member of a conjunction. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell c k)))
          ∗ (bigSep Finset.univ fun k => iprop(atPos ER (kcell c k) 0 ∅ 0 ∗ reached ER (kcell c k) 0)) ∗ toks c) : sProp 𝕄)
      ⊢ bigSep Finset.univ (G' m) := by
  rw [bigSep_sep', bigSep_sep', ← bigSep_univ_prod (fun p : Dev nD × CK => iprop(∃ κ : ℕ, cellInv ER (ringRd m) κ (kcell p.1 p.2))),
    bigSep_congr (s := Finset.univ) (fun (c : Dev nD) _ => bigSep_sep' Finset.univ (fun k : CK => (atPos ER (kcell c k) 0 ∅ 0 : sProp 𝕄)) (fun k => reached ER (kcell c k) 0)),
    bigSep_sep', ← bigSep_univ_prod (fun p : Dev nD × CK => (reached ER (kcell p.1 p.2) 0 : sProp 𝕄))]
  iintro ⟨HI, ⟨Hat, #HR⟩, Htok⟩
  ihave HK := (BI.bigSep_exists_pi Finset.univ (fun (p : Dev nD × CK) (κ : ℕ) => (cellInv ER (ringRd m) κ (kcell p.1 p.2) : sProp 𝕄))) $$ HI
  icases HK with ⟨%K, #HI⟩
  ihave Htk := (toks_around (F := F)) $$ Htok
  iapply (to_each (R := records m K) fun c _ => ghost_intro m K c)
  isplitr
  · unfold records; isplitl; · iexact HI
    iexact HR
  · unfold linear
    iapply (Entails.of_eq (bigSep_sep' Finset.univ (fun c : Dev nD => bigSep Finset.univ fun k : CK => (atPos ER (kcell c k) 0 ∅ 0 : sProp 𝕄)) payToks).symm)
    isplitl [Hat]; · iexact Hat
    iexact Htk

/-- The step all devices make together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem rcv_inj {l : Lane} {h i : Fin (hops l)} (e : CK.rcv ⟨l, h⟩ = CK.rcv ⟨l, i⟩) : h = i := by
  injection e with e; injection e with e; injection e with e; injection e

theorem owedL_rcv (l : Lane) (h : Fin (hops l)) (d c : Dev nD) :
    owedL l d 0 (kcell c (CK.rcv ⟨l, h⟩)) () = if d = dn l c then NL l else 0 := by
  unfold owedL
  rw [Finset.sum_apply, Finsupp.finset_sum_apply, Finset.filter_true_of_mem fun _ _ => Nat.zero_le _, Finset.sum_eq_single h]
  · rw [tallyAt_apply]
    by_cases e : d = dn l c
    · rw [if_pos e, e, up_dn, if_pos ⟨rfl, rfl⟩]
    · rw [if_neg e, if_neg fun hh => e (by rw [(kcell_eq_iff.mp hh.1).1, dn_up])]
  · intro i _ hi
    rw [tallyAt_apply, if_neg]
    intro hh
    exact hi (rcv_inj (kcell_eq_iff.mp hh.1).2).symm
  · exact fun hn => absurd (Finset.mem_univ _) hn

omit [FloatOps F] in
theorem creds_lane (l : Lane) (c : Dev nD) :
    (Pipeline.launchCred (fun d => owedL l d 0) c : sProp 𝕄) ⊢ bigSep Finset.univ fun h : Fin (hops l) => cred (tallyAt (kcell c (CK.rcv ⟨l, h⟩)) () (NL l)) := by
  unfold Pipeline.launchCred
  refine (bigSep_subset (t := Finset.univ.image fun h : Fin (hops l) => csem (CK.rcv ⟨l, h⟩)) (Finset.subset_univ _)).trans ?_
  rw [bigSep_image_of_injOn fun a _ b _ e => rcv_inj (csem_inj e)]
  refine bigSep_mono fun h _ => Entails.of_eq (congrArg cred ?_)
  unfold tallyAt; refine congrArg _ (Finsupp.ext fun u => ?_); cases u
  rw [Pipeline.launchCredit_owing, Finsupp.single_eq_same, Finset.sum_congr rfl fun d _ => owedL_rcv l h d c, Finset.sum_ite_eq' Finset.univ (dn l c) fun _ => NL l,
    if_pos (Finset.mem_univ _)]

omit [FloatOps F] in
/-- A unit owed by each device to a neighbour is a unit at each. -/
theorem creds_bar (e : Dev nD ≃ Dev nD) (c : Dev nD) :
    (Pipeline.launchCred (fun d => tallyAt (kcell (e d) CK.bar) () 1) c : sProp 𝕄) ⊢ cred (tallyAt (kcell c CK.bar) () 1) := by
  unfold Pipeline.launchCred
  refine (bigSep_elim (i := csem CK.bar) (Finset.mem_univ _)).trans (Entails.of_eq (congrArg cred ?_))
  unfold tallyAt; refine congrArg _ (Finsupp.ext fun u => ?_); cases u
  rw [Pipeline.launchCredit_owing, Finsupp.single_eq_same]
  have h (d : Dev nD) : tallyOn (kcell (e d) CK.bar) (Finsupp.single () 1) (kcell c CK.bar) () = if d = e.symm c then 1 else 0 := by
    refine (tallyAt_apply (kcell (e d) CK.bar) () 1 (kcell c CK.bar) ()).trans ?_
    by_cases hd : d = e.symm c
    · rw [if_pos hd, hd, Equiv.apply_symm_apply, if_pos ⟨rfl, rfl⟩]
    · rw [if_neg hd, if_neg fun hh => hd (by rw [(kcell_eq_iff.mp hh.1).1, Equiv.symm_apply_apply])]
  refine (Finset.sum_congr rfl fun d _ => h d).trans ?_
  rw [Finset.sum_ite_eq' Finset.univ (e.symm c) fun _ => 1, if_pos (Finset.mem_univ _)]

omit [FloatOps F] in
theorem creds (c : Dev nD) :
    (Pipeline.launchCred O₀ c : sProp 𝕄) ⊢ iprop((bigSep Finset.univ fun x : Hop => cred (tallyAt (kcell c (CK.rcv x)) () (NL x.1))) ∗ cred (tallyAt (kcell c CK.bar) () 2)) := by
  show (Pipeline.launchCred (fun d => owedL 0 d 0 + owedL 1 d 0 + owedL 2 d 0 + owedL 3 d 0 + tallyAt (kcell (nxt d) CK.bar) () 1 + tallyAt (kcell (prv d) CK.bar) () 1) c : sProp 𝕄) ⊢ _
  rw [Pipeline.launchCred_add, Pipeline.launchCred_add, Pipeline.launchCred_add, Pipeline.launchCred_add, Pipeline.launchCred_add, Pipeline.bigSep_univ_sigma,
    bigSep_W0]
  iintro ⟨⟨⟨⟨⟨H0, H1⟩, H2⟩, H3⟩, HN⟩, HP⟩
  ihave H0 := (creds_lane (F := F) 0 c) $$ H0
  ihave H1 := (creds_lane (F := F) 1 c) $$ H1
  ihave H2 := (creds_lane (F := F) 2 c) $$ H2
  ihave H3 := (creds_lane (F := F) 3 c) $$ H3
  ihave HN := (show (Pipeline.launchCred (fun d => tallyAt (kcell (nxt d) CK.bar) () 1) c : sProp 𝕄) ⊢ cred (tallyAt (kcell c CK.bar) () 1) from
    creds_bar (F := F) ringE c) $$ HN
  ihave HP := (show (Pipeline.launchCred (fun d => tallyAt (kcell (prv d) CK.bar) () 1) c : sProp 𝕄) ⊢ cred (tallyAt (kcell c CK.bar) () 1) from
    creds_bar (F := F) ringE.symm c) $$ HP
  isplitl [H0 H1 H2 H3]
  · isplitl [H0]; · iexact H0
    isplitl [H1]; · iexact H1
    isplitl [H2]; · iexact H2
    iexact H3
  · rw [← tallyAt_add _ _ 1 1]
    iapply (cred_add _ _).2
    isplitl [HN] <;> iassumption

end Cert.KernelIdeal.Ring
-- ==== Proof.KernelIdeal.Buffers.lean ====
/-
# 01_k — buffers and ghost state, cut for the body and put together after it
-/
module

public import proofs.«01_k».proof.Proof.KernelIdeal.Body
public import proofs.«01_k».proof.Proof.KernelIdeal.Ghost
public import Idealize.ShloMosaic.Lib.Ring
public import Idealize.ShloMosaic.Lib.Ring.FamCut

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers -/

/-- A buffer of device `c`, whole, whatever it holds. -/
def Whole (b : Ref sig .tc) (c : Dev nD) : sProp 𝕄 :=
  iprop(∃ f : Buf (Elt F) ((c : Thread nD τ).loc b), ((c : Thread nD τ).loc b ↦{fullShare} f))

/-- A buffer of device `c`, whole, holding `X`. -/
def stg (c : Dev nD) (b : Ref sig .tc) (X : Buf (Elt F) ((c : Thread nD τ).loc b)) : sProp 𝕄 :=
  iprop(∃ f : Buf (Elt F) ((c : Thread nD τ).loc b), ⌜f = X⌝ ∗ ((c : Thread nD τ).loc b ↦{fullShare} f))

omit [FloatOps F] in
theorem owns_whole_eq (c : Dev nD) (b : Ref sig .tc) (X : Buf (Elt F) ((c : Thread nD τ).loc b)) :
    owns (Ix := Unit) (Name := ℕ) (U := UU) (Lvl := ℕ) c (Memref.whole b) fullShare X = (stg c b X : sProp 𝕄) := by
  unfold owns stg; simp only [Memref.view_whole, View.read_whole, View.set_whole]

omit [FloatOps F] in
theorem whole_owns (b : Ref sig .tc) (c : Dev nD) : Owns (Memref.whole b) c = (Whole b c : sProp 𝕄) := by
  unfold Owns Whole; simp only [Memref.view_whole, View.set_whole]

omit [FloatOps F] in
theorem whole_holds (b : Ref sig .tc) (c : Dev nD) (X : Buf (Elt F) ((c : Thread nD τ).loc b)) :
    Holds (Memref.whole b) c fullShare X = (stg c b X : sProp 𝕄) := by
  unfold Holds stg; simp only [Memref.view_whole, View.read_whole, View.set_whole]

omit [FloatOps F] in
theorem stg_whole (c : Dev nD) (b : Ref sig .tc) (X : Buf (Elt F) ((c : Thread nD τ).loc b)) : stg c b X ⊢ (Whole b c : sProp 𝕄) := by
  unfold stg Whole
  iintro ⟨%f, -, H⟩
  iexists f; iexact H

/-! ## The slots of a lane -/

/-- The buffer a lane's slots are of. -/
def laneBuf : Lane → Ref sig .tc | 0 => cc0_scratch0 | 1 => cc0_scratch1 | 2 => cc0_scratch2 | 3 => cc0_scratch3

section Cut

/-- The elements of a buffer under a rectangle of it. -/
abbrev under (b : Ref sig .tc) (r : Rect b.ty.shape) : Finset b.ty.Idx := ((View.whole b).slice r).set
theorem under_eq (b : Ref sig .tc) (r : Rect b.ty.shape) : under b r = r.set := (View.set_slice _ _).trans Finset.map_refl

variable (b : Ref sig .tc) {n : ℕ} (r : Fin n → Rect b.ty.shape)
  (hd : ∀ s s', s ≠ s' → Disjoint (r s).set (r s').set) (hc : Finset.univ.biUnion (fun s => (r s).set) = Finset.univ)

omit [FloatOps F] in
include hd hc in
/-- A whole buffer is cut along rectangles that part it, -/
theorem cut (c : Dev nD) : (Whole b c : sProp 𝕄)
    ⊢ bigSep Finset.univ fun s => iprop(∃ f : Buf (Elt F) ((c : Thread nD τ).loc b), (c : Thread nD τ).loc b ↦[under b (r s)]{fullShare} f) := by
  unfold Whole
  iintro ⟨%f, H⟩
  iapply ((Entails.of_eq (Ring.pointsTo_blocks (ℓ := (c : Thread nD τ).loc b) (Ix := Unit) (Name := ℕ) (U := UU) (Lvl := ℕ) (fun s => under b (r s))
    (fun s s' h => by rw [under_eq, under_eq]; exact hd s s' h) ((Finset.biUnion_congr rfl fun s _ => under_eq b (r s)).trans hc) (q := fullShare) f)).trans
      (bigSep_mono fun s _ => Ring.pointsTo_exists _ f))
  iexact H

omit [FloatOps F] in
include hd hc in
/-- and put together from them. -/
theorem join (f₀ : ∀ ℓ : Loc nD τ sig, Buf (Elt F) ℓ) (c : Dev nD) :
    (bigSep Finset.univ fun s => iprop(∃ f : Buf (Elt F) ((c : Thread nD τ).loc b), (c : Thread nD τ).loc b ↦[under b (r s)]{fullShare} f))
      ⊢ (Whole b c : sProp 𝕄) :=
  Ring.pointsTo_blocks_join_exists (ℓ := (c : Thread nD τ).loc b) (fun s => under b (r s))
    (fun s s' h => by rw [under_eq, under_eq]; exact hd s s' h) ((Finset.biUnion_congr rfl fun s _ => under_eq b (r s)).trans hc) (f₀ _)

end Cut

/-! The rectangles of a lane's slots part its buffer. -/

theorem slots_q9 (s s' : Fin 9) (h : s ≠ s') :
    Disjoint (Rect.unit (s := S9x512x256) ![s.val, 0, 0] S1x512x256.size (slot_inb_q9 s)).set (Rect.unit (s := S9x512x256) ![s'.val, 0, 0] S1x512x256.size (slot_inb_q9 s')).set :=
  Ring.lead_disjoint (s := S9x512x256) (0 : Fin 3) 1 (fun j : Fin 9 => (![j.val, 0, 0] : Fin 3 → ℕ)) S1x512x256.size slot_inb_q9 (fun j => by simp) rfl s s' h
theorem cover_q9 : Finset.univ.biUnion (fun s : Fin 9 => (Rect.unit (s := S9x512x256) ![s.val, 0, 0] S1x512x256.size (slot_inb_q9 s)).set) = Finset.univ :=
  Ring.lead_cover (s := S9x512x256) (0 : Fin 3) 1 (fun j : Fin 9 => (![j.val, 0, 0] : Fin 3 → ℕ)) S1x512x256.size slot_inb_q9 (fun j => by simp)
    (fun j a ha => by fin_cases a <;> first | rfl | exact absurd rfl ha) rfl (fun a ha => by fin_cases a <;> first | rfl | exact absurd rfl ha) rfl
theorem slots_o9 (s s' : Fin 9) (h : s ≠ s') :
    Disjoint (Rect.unit (s := S9x256x512) ![s.val, 0, 0] S1x256x512.size (slot_inb_o9 s)).set (Rect.unit (s := S9x256x512) ![s'.val, 0, 0] S1x256x512.size (slot_inb_o9 s')).set :=
  Ring.lead_disjoint (s := S9x256x512) (0 : Fin 3) 1 (fun j : Fin 9 => (![j.val, 0, 0] : Fin 3 → ℕ)) S1x256x512.size slot_inb_o9 (fun j => by simp) rfl s s' h
theorem cover_o9 : Finset.univ.biUnion (fun s : Fin 9 => (Rect.unit (s := S9x256x512) ![s.val, 0, 0] S1x256x512.size (slot_inb_o9 s)).set) = Finset.univ :=
  Ring.lead_cover (s := S9x256x512) (0 : Fin 3) 1 (fun j : Fin 9 => (![j.val, 0, 0] : Fin 3 → ℕ)) S1x256x512.size slot_inb_o9 (fun j => by simp)
    (fun j a ha => by fin_cases a <;> first | rfl | exact absurd rfl ha) rfl (fun a ha => by fin_cases a <;> first | rfl | exact absurd rfl ha) rfl
theorem slots_q8 (s s' : Fin 8) (h : s ≠ s') :
    Disjoint (Rect.unit (s := S8x512x256) ![s.val, 0, 0] S1x512x256.size (slot_inb_q8 s)).set (Rect.unit (s := S8x512x256) ![s'.val, 0, 0] S1x512x256.size (slot_inb_q8 s')).set :=
  Ring.lead_disjoint (s := S8x512x256) (0 : Fin 3) 1 (fun j : Fin 8 => (![j.val, 0, 0] : Fin 3 → ℕ)) S1x512x256.size slot_inb_q8 (fun j => by simp) rfl s s' h
theorem cover_q8 : Finset.univ.biUnion (fun s : Fin 8 => (Rect.unit (s := S8x512x256) ![s.val, 0, 0] S1x512x256.size (slot_inb_q8 s)).set) = Finset.univ :=
  Ring.lead_cover (s := S8x512x256) (0 : Fin 3) 1 (fun j : Fin 8 => (![j.val, 0, 0] : Fin 3 → ℕ)) S1x512x256.size slot_inb_q8 (fun j => by simp)
    (fun j a ha => by fin_cases a <;> first | rfl | exact absurd rfl ha) rfl (fun a ha => by fin_cases a <;> first | rfl | exact absurd rfl ha) rfl
theorem slots_o8 (s s' : Fin 8) (h : s ≠ s') :
    Disjoint (Rect.unit (s := S8x256x512) ![s.val, 0, 0] S1x256x512.size (slot_inb_o8 s)).set (Rect.unit (s := S8x256x512) ![s'.val, 0, 0] S1x256x512.size (slot_inb_o8 s')).set :=
  Ring.lead_disjoint (s := S8x256x512) (0 : Fin 3) 1 (fun j : Fin 8 => (![j.val, 0, 0] : Fin 3 → ℕ)) S1x256x512.size slot_inb_o8 (fun j => by simp) rfl s s' h
theorem cover_o8 : Finset.univ.biUnion (fun s : Fin 8 => (Rect.unit (s := S8x256x512) ![s.val, 0, 0] S1x256x512.size (slot_inb_o8 s)).set) = Finset.univ :=
  Ring.lead_cover (s := S8x256x512) (0 : Fin 3) 1 (fun j : Fin 8 => (![j.val, 0, 0] : Fin 3 → ℕ)) S1x256x512.size slot_inb_o8 (fun j => by simp)
    (fun j a ha => by fin_cases a <;> first | rfl | exact absurd rfl ha) rfl (fun a ha => by fin_cases a <;> first | rfl | exact absurd rfl ha) rfl

omit [FloatOps F] in
theorem slots_cut (l : Lane) (c : Dev nD) : Whole (laneBuf l) c ⊢ (bigSep Finset.univ fun s : Fin (hops l + 1) => Owns (slotM l s) c : sProp 𝕄) := by
  fin_cases l
  exacts [cut cc0_scratch0 _ slots_q9 cover_q9 c, cut cc0_scratch1 _ slots_o9 cover_o9 c, cut cc0_scratch2 _ slots_q8 cover_q8 c, cut cc0_scratch3 _ slots_o8 cover_o8 c]

omit [FloatOps F] in
theorem slots_join (f₀ : ∀ ℓ : Loc nD τ sig, Buf (Elt F) ℓ) (l : Lane) (c : Dev nD) :
    (bigSep Finset.univ fun s : Fin (hops l + 1) => Owns (slotM l s) c : sProp 𝕄) ⊢ Whole (laneBuf l) c := by
  fin_cases l
  exacts [join cc0_scratch0 _ slots_q9 cover_q9 f₀ c, join cc0_scratch1 _ slots_o9 cover_o9 f₀ c, join cc0_scratch2 _ slots_q8 cover_q8 f₀ c, join cc0_scratch3 _ slots_o8 cover_o8 f₀ c]

omit [FloatOps F] in
theorem first_rest {n : ℕ} (Φ : Fin (n + 1) → sProp 𝕄) : bigSep Finset.univ Φ = iprop(Φ 0 ∗ bigSep Finset.univ fun k : Fin n => Φ k.succ) := by
  rw [Fin.univ_succ, Finset.cons_eq_insert, BI.bigSep_insert (by simp), BI.bigSep_map]; rfl

omit [FloatOps F] in
theorem rest_last {n : ℕ} (Φ : Fin (n + 1) → sProp 𝕄) : bigSep Finset.univ Φ = iprop(Φ (Fin.last n) ∗ bigSep Finset.univ fun k : Fin n => Φ k.castSucc) := by
  rw [Fin.univ_castSuccEmb, Finset.cons_eq_insert, BI.bigSep_insert (by simp), BI.bigSep_map]; rfl

omit [FloatOps F] in
theorem bigSep_two (Φ : Fin 2 → sProp 𝕄) : bigSep Finset.univ Φ = iprop(Φ 0 ∗ Φ 1) := bigSep_fin_two Φ

/-- A lane as the body takes it, from its buffer and its ghost resources. -/
theorem lane_enter (l : Lane) (c : Dev nD) : iprop(Whole (laneBuf l) c ∗ bigSep Finset.univ fun h : Fin (hops l) => Kit l c h) ⊢ (LaneStart l c : sProp 𝕄) := by
  unfold LaneStart gather
  iintro ⟨HW, HK⟩
  ihave HS := (slots_cut (F := F) l c) $$ HW
  ihave HS := (Entails.of_eq (first_rest fun s : Fin (hops l + 1) => (Owns (slotM l s) c : sProp 𝕄))) $$ HS
  icases HS with ⟨H0, HG⟩
  isplitl [H0]; · iexact H0
  isplitl [HG]; · iexact HG
  iexact HK

/-- A lane as the body leaves it: its buffer whole, its semaphores at zero. -/
theorem lane_exit (l : Lane) (c : Dev nD) : laneN m l c (hops l)
    ⊢ (iprop(Whole (laneBuf l) c ∗ (bigSep Finset.univ fun h : Fin (hops l) => semVal (kcell c (CK.snd ⟨l, h⟩)) 0)
      ∗ (bigSep Finset.univ fun h : Fin (hops l) => semVal (kcell c (CK.rcv ⟨l, h⟩)) 0)) : sProp 𝕄) := by
  rw [laneN_eq m l c (hops l) (Nat.lt_succ_self _)]
  unfold LaneAt HopsAt SlotHas
  rw [bigSep_congr (Ψ := fun i : Fin (hops l) => Done l c i) fun i _ => if_pos i.isLt]
  unfold Done
  rw [bigSep_sep', bigSep_sep']
  iintro ⟨⟨HS, HR, HO⟩, HL⟩
  ihave HL := (holds_owns _ _ _) $$ HL
  isplitl [HO HL]
  · iapply (slots_join m l c)
    rw [rest_last]
    isplitl [HL]; · iexact HL
    iexact HO
  isplitl [HS] <;> iassumption

/-! ## The keys and the values -/

/-- What of the keys' or the values' array is other devices' part. -/
def KvRest (i : Fin 2) (c : Dev nD) : sProp 𝕄 :=
  iprop((kvSrc i c).view.loc (c : Thread nD τ) ↦[Finset.univ \ (kvSrc i c).view.set]{fullShare} m ((kvSrc i c).view.loc (c : Thread nD τ)))

theorem kv_cut (i : Fin 2) (c : Dev nD) :
    ((kvSrc i c).view.loc (c : Thread nD τ) ↦{fullShare} m ((kvSrc i c).view.loc (c : Thread nD τ)) : sProp 𝕄) ⊣⊢ iprop(KvSrc m i c ∗ KvRest m i c) :=
  pointsTo_split_subset (Finset.subset_univ _)

/-! ## Ghost state -/

/-- Device `c`'s credit for what its neighbours send it. -/
def rcvCreds (c : Dev nD) : sProp 𝕄 := bigSep Finset.univ fun x : Hop => cred (tallyAt (kcell c (CK.rcv x)) () (NL x.1))

/-- The ghost resources of a device's hops, lane by lane, and of the rest. -/
theorem kits (c : Dev nD) : iprop(linear c ∗ rcvCreds c)
    ⊢ (iprop((bigSep Finset.univ fun h : Fin (hops 0) => Kit 0 c h) ∗ (bigSep Finset.univ fun h : Fin (hops 1) => Kit 1 c h)
      ∗ (bigSep Finset.univ fun h : Fin (hops 2) => Kit 2 c h) ∗ (bigSep Finset.univ fun h : Fin (hops 3) => Kit 3 c h)
      ∗ atPos ER (kcell c CK.bar) 0 ∅ 0 ∗ (atPos ER (kcell c (CK.kv 0)) 0 ∅ 0 ∗ atPos ER (kcell c (CK.kv 1)) 0 ∅ 0)
      ∗ dutyTok ER (kcell (nxt c) CK.bar) 0 false ∗ dutyTok ER (kcell (prv c) CK.bar) 0 true
      ∗ (dutyTok ER (kcell c (CK.kv 0)) 0 false ∗ dutyTok ER (kcell c (CK.kv 1)) 0 false)) : sProp 𝕄) := by
  have hk : iprop((bigSep Finset.univ fun x : Hop => atPos ER (kcell c (CK.snd x)) 0 ∅ 0) ∗ (bigSep Finset.univ fun x : Hop => atPos ER (kcell c (CK.rcv x)) 0 ∅ 0)
      ∗ (bigSep Finset.univ fun x : Hop => dutyTok ER (kcell c (CK.snd x)) 0 false) ∗ (bigSep Finset.univ fun x : Hop => dutyTok ER (kcell (up x.1 c) (CK.rcv x)) 0 false)
      ∗ (bigSep Finset.univ fun x : Hop => cred (tallyAt (kcell c (CK.rcv x)) () (NL x.1))))
      ⊢ (iprop((bigSep Finset.univ fun h : Fin (hops 0) => Kit 0 c h) ∗ (bigSep Finset.univ fun h : Fin (hops 1) => Kit 1 c h)
      ∗ (bigSep Finset.univ fun h : Fin (hops 2) => Kit 2 c h) ∗ (bigSep Finset.univ fun h : Fin (hops 3) => Kit 3 c h)) : sProp 𝕄) := by
    rw [← bigSep_sep', ← bigSep_sep', ← bigSep_sep', ← bigSep_sep', Pipeline.bigSep_univ_sigma, bigSep_W0]
    exact .rfl
  unfold linear payToks rcvCreds
  rw [bigSep_ck, bigSep_fin_two, bigSep_fin_two]
  iintro ⟨⟨⟨HB, HV, HaS, HaR⟩, HN, HP, HtV, HtS, HtR⟩, HC⟩
  ihave HK := hk $$ [HaS HaR HtS HtR HC]
  · isplitl [HaS]; · iexact HaS
    isplitl [HaR]; · iexact HaR
    isplitl [HtS]; · iexact HtS
    isplitl [HtR] <;> iassumption
  icases HK with ⟨H0, H1, H2, H3⟩
  isplitl [H0]; · iexact H0
  isplitl [H1]; · iexact H1
  isplitl [H2]; · iexact H2
  isplitl [H3]; · iexact H3
  isplitl [HB]; · iexact HB
  isplitl [HV]; · iexact HV
  isplitl [HN]; · iexact HN
  isplitl [HP]; · iexact HP
  iexact HtV

end Cert.KernelIdeal.Ring
-- ==== Proof.KernelIdeal.Launch.lean ====
/-
# 01_k — the launch and the run
-/
module

public import proofs.«01_k».proof.Proof.KernelIdeal.Buffers
public import Idealize.ShloMosaic.Lib.Pipeline.CollectiveSegs

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The arrays of the keys and the values, at the launch contents. -/
def kvArrs (c : Dev nD) : sProp 𝕄 :=
  iprop(((c : Thread nD τ).loc main_arg2 ↦{fullShare} m ((c : Thread nD τ).loc main_arg2)) ∗ ((c : Thread nD τ).loc main_arg3 ↦{fullShare} m ((c : Thread nD τ).loc main_arg3)))

/-- The buffers of the kernel that no window stages. -/
def scratches (c : Dev nD) : sProp 𝕄 :=
  iprop(Whole cc0_scratch0 c ∗ Whole cc0_scratch1 c ∗ Whole cc0_scratch2 c ∗ Whole cc0_scratch3 c ∗ Whole cc0_scratch4 c ∗ Whole cc0_scratch5 c
    ∗ Whole cc0_scratch6 c ∗ Whole cc0_scratch7 c)

def start (c : Dev nD) : sProp 𝕄 := iprop(G' m c ∗ rcvCreds c ∗ cred (tallyAt (kcell c CK.bar) () 2) ∗ levAts L lv ∗ kvArrs m c)

/-- Before the one point, and after it. -/
def Φ₀ (c : Dev nD) : sProp 𝕄 := iprop(start m c ∗ scratches c)
def Φ₁ (c : Dev nD) : sProp 𝕄 := iprop(scratches c ∗ (bigSep Finset.univ fun k : CK => semVal (kcell c k) 0) ∗ kvArrs m c)

/-- The output block the body leaves. -/
abbrev outA (c : Dev nD) : Vec F S2x128x512 .f32 := k0_pay2 (accLast m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => wqA m c
    | ⟨2, _⟩ => woA m c
    | ⟨3, _⟩ => outA m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem before_0 (c : Dev nD) (d) : (dats m ρ 0 c).before (0 : Fin 4) t₀ d = xA m c := by unfold Dat.before; rw [if_pos (fetch_0 t₀)]; rfl
theorem before_1 (c : Dev nD) (d) : (dats m ρ 0 c).before (1 : Fin 4) t₀ d = wqA m c := by unfold Dat.before; rw [if_pos (fetch_1 t₀)]; rfl
theorem before_2 (c : Dev nD) (d) : (dats m ρ 0 c).before (2 : Fin 4) t₀ d = woA m c := by unfold Dat.before; rw [if_pos (fetch_2 t₀)]; rfl

/-! ## The body -/

set_option maxHeartbeats 1000000 in
/-- What the body starts from, out of what the launch gives. -/
theorem enter (c : Dev nD) : iprop(Φ₀ m c ∗ owesE c (O₀ c) ∗ stg c cc0_stg0_0 (xA m c) ∗ stg c cc0_stg1_0 (wqA m c) ∗ stg c cc0_stg2_0 (woA m c) ∗ Whole cc0_stg3_0 c)
    ⊢ (iprop(∃ K, Before m K c ∗ KvRest m 0 c ∗ KvRest m 1 c) : sProp 𝕄) := by
  unfold Φ₀ start G' scratches kvArrs
  iintro ⟨⟨⟨⟨%K, #Hrec, Hlin⟩, HC, HcB, #Hlev, HA2, HA3⟩, HW0, HW1, HW2, HW3, HW4, HW5, HW6, HW7⟩, HO, Hx, Hq, Ho, Hout⟩
  ihave HK := (kits c) $$ [Hlin HC]
  · isplitl [Hlin] <;> iassumption
  icases HK with ⟨K0, K1, K2, K3, HaB, ⟨HaV0, HaV1⟩, HtN, HtP, HtV0, HtV1⟩
  ihave H2 := (show ((c : Thread nD τ).loc main_arg2 ↦{fullShare} m ((c : Thread nD τ).loc main_arg2) : sProp 𝕄) ⊢ iprop(KvSrc m 0 c ∗ KvRest m 0 c) from (kv_cut m 0 c).1) $$ HA2
  icases H2 with ⟨HS0, HR0⟩
  ihave H3 := (show ((c : Thread nD τ).loc main_arg3 ↦{fullShare} m ((c : Thread nD τ).loc main_arg3) : sProp 𝕄) ⊢ iprop(KvSrc m 1 c ∗ KvRest m 1 c) from (kv_cut m 1 c).1) $$ HA3
  icases H3 with ⟨HS1, HR1⟩
  ihave L0 := (lane_enter (F := F) 0 c) $$ [HW0 K0]
  · isplitl [HW0]; · iexact HW0
    iexact K0
  ihave L1 := (lane_enter (F := F) 1 c) $$ [HW1 K1]
  · isplitl [HW1]; · iexact HW1
    iexact K1
  ihave L2 := (lane_enter (F := F) 2 c) $$ [HW2 K2]
  · isplitl [HW2]; · iexact HW2
    iexact K2
  ihave L3 := (lane_enter (F := F) 3 c) $$ [HW3 K3]
  · isplitl [HW3]; · iexact HW3
    iexact K3
  iexists K
  isplitr [HR0 HR1]
  · unfold Before KvKit KvSrc
    isplitr; · iexact Hrec
    isplitr; · iexact Hlev
    isplitl [Hx]; · iapply (Entails.of_eq (whole_holds (F := F) cc0_stg0_0 c (xA m c)).symm) $$ Hx
    isplitl [Hq]; · iapply (Entails.of_eq (whole_holds (F := F) cc0_stg1_0 c (wqA m c)).symm) $$ Hq
    isplitl [Ho]; · iapply (Entails.of_eq (whole_holds (F := F) cc0_stg2_0 c (woA m c)).symm) $$ Ho
    isplitl [Hout]; · iapply (Entails.of_eq (whole_owns (F := F) cc0_stg3_0 c).symm) $$ Hout
    isplitl [HS0 HW4 HtV0]
    · isplitl [HS0]; · iexact HS0
      isplitl [HW4]; · iapply (Entails.of_eq (whole_owns (F := F) cc0_scratch4 c).symm) $$ HW4
      iexact HtV0
    isplitl [HS1 HW5 HtV1]
    · isplitl [HS1]; · iexact HS1
      isplitl [HW5]; · iapply (Entails.of_eq (whole_owns (F := F) cc0_scratch5 c).symm) $$ HW5
      iexact HtV1
    isplitl [HaV0]; · iexact HaV0
    isplitl [HaV1]; · iexact HaV1
    isplitl [HW6]; · iapply (Entails.of_eq (whole_owns (F := F) cc0_scratch6 c).symm) $$ HW6
    isplitl [HW7]; · iapply (Entails.of_eq (whole_owns (F := F) cc0_scratch7 c).symm) $$ HW7
    isplitl [HtP]; · iexact HtP
    isplitl [HtN]; · iexact HtN
    isplitl [HaB]; · iexact HaB
    isplitl [HcB]; · iexact HcB
    isplitl [L0]; · iexact L0
    isplitl [L1]; · iexact L1
    isplitl [L2]; · iexact L2
    isplitl [L3]; · iexact L3
    iexact HO
  · isplitl [HR0] <;> iassumption

set_option maxHeartbeats 1000000 in
/-- What the launch takes back, out of what the body ends with. -/
theorem leave (c : Dev nD) : iprop(After m c ∗ KvRest m 0 c ∗ KvRest m 1 c)
    ⊢ (iprop(Φ₁ m c ∗ owesE c 0 ∗ stg c cc0_stg0_0 (xA m c) ∗ stg c cc0_stg1_0 (wqA m c) ∗ stg c cc0_stg2_0 (woA m c) ∗ stg c cc0_stg3_0 (outA m c)) : sProp 𝕄) := by
  unfold After Comp
  iintro ⟨⟨Hx, Hq, Ho, Hout, HS0, HS1, Hz0, Hz1, HzB, ⟨HkB, HvB, Hctx, Hacc⟩, L0, L1, L2, L3, HO⟩, HR0, HR1⟩
  ihave L0 := (lane_exit m 0 c) $$ L0
  ihave L1 := (lane_exit m 1 c) $$ L1
  ihave L2 := (lane_exit m 2 c) $$ L2
  ihave L3 := (lane_exit m 3 c) $$ L3
  icases L0 with ⟨HW0, S0, R0⟩
  icases L1 with ⟨HW1, S1, R1⟩
  icases L2 with ⟨HW2, S2, R2⟩
  icases L3 with ⟨HW3, S3, R3⟩
  unfold Φ₁ scratches kvArrs
  rw [bigSep_ck, bigSep_two, Pipeline.bigSep_univ_sigma, Pipeline.bigSep_univ_sigma, bigSep_W0, bigSep_W0]
  isplitr [HO Hx Hq Ho Hout]
  · isplitl [HW0 HW1 HW2 HW3 HkB HvB Hctx Hacc]
    · isplitl [HW0]; · iexact HW0
      isplitl [HW1]; · iexact HW1
      isplitl [HW2]; · iexact HW2
      isplitl [HW3]; · iexact HW3
      isplitl [HkB]; · iapply ((holds_owns _ _ _).trans (Entails.of_eq (whole_owns (F := F) cc0_scratch4 c))) $$ HkB
      isplitl [HvB]; · iapply ((holds_owns _ _ _).trans (Entails.of_eq (whole_owns (F := F) cc0_scratch5 c))) $$ HvB
      isplitl [Hctx]; · iapply (Entails.of_eq (whole_owns (F := F) cc0_scratch6 c)) $$ Hctx
      iapply ((holds_owns _ _ _).trans (Entails.of_eq (whole_owns (F := F) cc0_scratch7 c))) $$ Hacc
    isplitl [HzB Hz0 Hz1 S0 S1 S2 S3 R0 R1 R2 R3]
    · isplitl [HzB]; · iexact HzB
      isplitl [Hz0 Hz1]
      · isplitl [Hz0] <;> iassumption
      isplitl [S0 S1 S2 S3]
      · isplitl [S0]; · iexact S0
        isplitl [S1]; · iexact S1
        isplitl [S2]; · iexact S2
        iexact S3
      · isplitl [R0]; · iexact R0
        isplitl [R1]; · iexact R1
        isplitl [R2]; · iexact R2
        iexact R3
    isplitl [HS0 HR0]
    · iapply (show iprop(KvSrc m 0 c ∗ KvRest m 0 c) ⊢ ((c : Thread nD τ).loc main_arg2 ↦{fullShare} m ((c : Thread nD τ).loc main_arg2) : sProp 𝕄) from (kv_cut m 0 c).2)
      isplitl [HS0] <;> iassumption
    · iapply (show iprop(KvSrc m 1 c ∗ KvRest m 1 c) ⊢ ((c : Thread nD τ).loc main_arg3 ↦{fullShare} m ((c : Thread nD τ).loc main_arg3) : sProp 𝕄) from (kv_cut m 1 c).2)
      isplitl [HS1] <;> iassumption
  isplitl [HO]; · iexact HO
  isplitl [Hx]; · iapply (Entails.of_eq (whole_holds (F := F) cc0_stg0_0 c (xA m c))) $$ Hx
  isplitl [Hq]; · iapply (Entails.of_eq (whole_holds (F := F) cc0_stg1_0 c (wqA m c))) $$ Hq
  isplitl [Ho]; · iapply (Entails.of_eq (whole_holds (F := F) cc0_stg2_0 c (woA m c))) $$ Ho
  iapply (Entails.of_eq (whole_holds (F := F) cc0_stg3_0 c (outA m c))) $$ Hout

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ
    ∗ stg c cc0_stg0_0 (xA m c) ∗ stg c cc0_stg1_0 (wqA m c) ∗ stg c cc0_stg2_0 (woA m c) ∗ stg c cc0_stg3_0 (outA m c))

theorem pre_enter (c : Dev nD) : bodyPre m ρ c ⊢ (iprop(∃ K, Before m K c ∗ KvRest m 0 c ∗ KvRest m 1 c) : sProp 𝕄) := by
  refine BIBase.Entails.trans ?_ (enter m c)
  unfold bodyPre Dat.owesAt Pipeline.owesWithin owesE
  rw [show (dats m ρ 0 c).owed t₀.castSucc = O₀ c from rfl]
  simp only [before_0, before_1, before_2]
  iintro ⟨HΦ, ⟨%W, -, HO⟩, ⟨%d0, H0⟩, ⟨%d1, H1⟩, ⟨%d2, H2⟩, ⟨%d3, H3⟩⟩
  isplitl [HΦ]; · iexact HΦ
  isplitl [HO]; · iexists W; iexact HO
  isplitl [H0]; · iexact H0
  isplitl [H1]; · iexact H1
  isplitl [H2]; · iexact H2
  iapply (stg_whole (F := F) c cc0_stg3_0 _) $$ H3

theorem post_leave (c : Dev nD) : iprop(After m c ∗ KvRest m 0 c ∗ KvRest m 1 c) ⊢ (bodyPost m ρ c : sProp 𝕄) := by
  refine (leave m c).trans ?_
  unfold bodyPost Dat.owesAt Pipeline.owesWithin owesE
  rw [show (dats m ρ 0 c).owed t₀.succ = 0 from rfl]
  iintro ⟨HΦ, ⟨%W, HO⟩, H⟩
  isplitl [HΦ]; · iexact HΦ
  isplitl [HO]
  · iexists W
    isplitr; · ipureintro; exact fun _ _ => Or.inl trivial
    iexact HO
  iexact H

set_option maxRecDepth 16384 in
/-- The body takes what the pipeline hands it and gives back what it is to. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wpc c
    (cc0_body (F := F) (Memref.whole cc0_stg0_0) (Memref.isWhole_whole _) (Memref.whole cc0_stg1_0) (Memref.isWhole_whole _) (Memref.whole main_arg2) (Memref.isWhole_whole _)
      (Memref.whole main_arg3) (Memref.isWhole_whole _) (Memref.whole cc0_stg2_0) (Memref.isWhole_whole _) (Memref.whole cc0_stg3_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _)
      cc0_scratch8 cc0_scratch9 cc0_scratch10 cc0_scratch11 cc0_scratch12 cc0_scratch13 cc0_scratch14 cc0_scratch15 cc0_scratch16) (fun _ => bodyPost m ρ c)
  refine (pre_enter m ρ c).trans ?_
  iintro ⟨%K, HB, HR⟩
  iapply ((wp_frame_r frame _ _).trans (wp_mono frame _ _ fun _ => post_leave m ρ c))
  isplitl [HB]
  · iapply (body m K c) $$ HB
  · iexact HR

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start kvArrs rcvCreds
  iintro ⟨HA, Hlev, Hcr, -, HG⟩
  ihave Hc := (creds (F := F) c) $$ Hcr
  icases Hc with ⟨HR, HB⟩
  imodintro
  isplitl
  · isplitl [HG]; · iexact HG
    isplitl [HR]; · iexact HR
    isplitl [HB]; · iexact HB
    isplitl [Hlev]; · iexact Hlev
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches Whole
  iintro ⟨Hs, -, Hr⟩
  isplitl [Hs]; · iexact Hs
  iexact Hr

theorem phi1_exit (c : Dev nD) :
    (dats m ρ 0 c).Φ (Fin.last cfg0.N) ⊢ iprop((kvArrs m c ∗ unscopedSems0 c) ∗ Pipeline.ownSems0 osem c ∗ Pipeline.scopedRest cfg0.spec c) := by
  rw [show (dats m ρ 0 c).Φ (Fin.last cfg0.N) = Φ₁ m c from rfl, scopedRest0_eq]
  unfold Φ₁ scratches Whole
  rw [← sems0_eq]
  iintro ⟨Hr, ⟨HB, HS⟩, HA⟩
  isplitl [HB HA]
  · isplitl [HA] <;> iassumption
  isplitl [HS]; · iexact HS
  iexact Hr

theorem cnum_ge (k : CK) : 4 ≤ cnum k := by revert k; decide +kernel
theorem stage_lt (w : Fin cfg0.W) (s : Fin (cfg0.win w).nbuf) : ((cfg0.win w).sem s).val < 4 := by
  fin_cases w <;> fin_cases s <;> decide
/-- Staging is at level 0. -/
theorem lv_stage (c : Dev nD) (w : Fin cfg0.W) (s : Fin (cfg0.win w).nbuf) : lv ((c : Thread nD τ), SemLoc.dma ((cfg0.win w).sem s)) () = 0 := by
  unfold lv role
  cases h : Function.partialInv csem (SemLoc.dma ((cfg0.win w).sem s)) with
  | none => rfl
  | some k =>
    have e : semNum (csem k) = semNum (SemLoc.dma ((cfg0.win w).sem s)) := congrArg semNum ((Function.partialInv_of_injective csem_inj _ _).mp h)
    rw [semNum_csem] at e
    have h1 := cnum_ge k
    have h2 := stage_lt w s
    change cnum k = ((cfg0.win w).sem s).val at e
    omega

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_stage c w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

/-- What holds when the program has run: the windows' arrays at their final contents, the others as they were. -/
def QC : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

/-- What device `c` gives back says this of the final memory. -/
def QY (c : Dev nD) (s : MemSt nD τ sig (Elt F)) : Prop :=
  (s.mem ((c : Thread nD τ).loc main_arg2) = m ((c : Thread nD τ).loc main_arg2) ∧ s.mem ((c : Thread nD τ).loc main_arg3) = m ((c : Thread nD τ).loc main_arg3))
    ∧ ∀ sm : SemLoc sig, sm.isScoped .tc = false → s.sem ((c.tc : Thread nD τ), sm) = 0

theorem arrs_read (c : Dev nD) (s' : Phys nD τ sig (Elt F)) :
    iprop((kvArrs m c ∗ unscopedSems0 c) ∗ emp ∗ SI s') ⊢ (|={Set.univ}=> iprop(⌜QY m c s'.mem⌝ ∗ SI s') : sProp 𝕄) := by
  unfold kvArrs
  iintro ⟨⟨⟨H2, H3⟩, Hu⟩, -, HSI⟩
  ihave %h2 := (SI_pointsTo_agree) $$ [HSI H2]
  · isplitl [HSI] <;> iassumption
  ihave %h3 := (SI_pointsTo_agree) $$ [HSI H3]
  · isplitl [HSI] <;> iassumption
  imod (Pipeline.unscopedSems0_read (X := unscopedSems0 c) (c := c) fupd_intro s') $$ [Hu HSI] with ⟨%hz, HSI⟩
  · isplitl [Hu] <;> iassumption
  imodintro
  isplitr
  · ipureintro; exact ⟨⟨funext fun i => h2 i (Finset.mem_univ i), funext fun i => h3 i (Finset.mem_univ i)⟩, hz⟩
  · iexact HSI

set_option maxRecDepth 8000 in
/-- From any memory with zero counters, every run of the program on the sixteen devices ends, with the windows' arrays at
    their final contents, the others as they were, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(kvArrs m c ∗ unscopedSems0 c)) (Z := fun _ => iprop(emp))
    (hX := start_intro m ρ) (hin := phi0_intro m ρ) (hout := phi1_exit m ρ)
    (QY := QY m) (hY := arrs_read m)
    (hQ := fun _ h hs => ⟨fun c => ⟨(h c).1, (h c).2.2.1⟩, sem_eq_zero hs fun c => (h c).2.2.2⟩)

end Cert.KernelIdeal.Ring
-- ==== Proof.KernelIdeal.Final.lean ====
/-
# 01_k — what the run leaves in the arrays
-/
module

public import proofs.«01_k».proof.Proof.KernelIdeal.Launch

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result's one block is the whole result. -/
theorem out_emb (c : Dev nD) (g : Buf (Elt F) ((c : Thread nD τ).loc main_v1)) (i : S2x128x512.Idx) :
    (win0_3.blk (0 : Fin 1)).view.read (Elt F) g i = g i := by
  refine congrArg g ?_
  funext a
  apply Fin.ext
  match a with
  | 0 => exact (Nat.zero_add _).trans (Nat.one_mul _)
  | 1 => exact (Nat.zero_add _).trans (Nat.one_mul _)
  | 2 => exact (Nat.zero_add _).trans (Nat.one_mul _)

theorem final_out (c : Dev nD) : finalA m ρ c (3 : Fin 4) = outA m c := by
  unfold finalA
  rw [show cfg0.N = t₀.val + 1 from rfl, Dat.arrAt_succ, if_pos (by rfl)]
  funext i
  exact (out_emb c _ i).symm.trans (congrFun (View.read_write_univ _ _) i)

/-- Every run of the program on the sixteen devices ends, with the result as computed, the arguments as they were, and every
    semaphore at zero. -/
theorem run_end : θ_run defs (onTc (τ := τ) (main (F := F))) ⟨m, fun _ => 0, ρ⟩ (fun r => (∀ c : Dev nD,
    r.2.mem ((c.tc : Thread nD τ).loc main_v1) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c =>
    ⟨((h.1 c).1 (3 : Fin 4)).trans (final_out m ρ c),
     ((h.1 c).1 (0 : Fin 4)).trans (Dat.arrAt_in (dats m ρ 0 c) (0 : Fin 4) rfl _),
     ((h.1 c).1 (1 : Fin 4)).trans (Dat.arrAt_in (dats m ρ 0 c) (1 : Fin 4) rfl _),
     (h.1 c).2.1, (h.1 c).2.2,
     ((h.1 c).1 (2 : Fin 4)).trans (Dat.arrAt_in (dats m ρ 0 c) (2 : Fin 4) rfl _)⟩, h.2⟩) (run_main m ρ)

end Cert.KernelIdeal.Ring
-- ==== Proof.Value.Softmax.lean ====
/-
# 01_k — one entry of attention, and a sum over the ring
-/
module

public import proofs.«01_k».proof.Proof.Gen.ReferenceIdeal.Run
public import Idealize.ShloMosaic.Lib.Pointwise
public import Idealize.ShloMosaic.Lib.Tactic.CleanTypes

@[expose] public section

noncomputable section

namespace Cert.Value

open Idealize.ShloMosaic

/-- The scaled score of a query against key `t`. -/
def score (q : Fin 64 → EReal) (K : Fin 128 → Fin 64 → EReal) (t : Fin 128) : EReal :=
  (∑ d, q d * K t d) * Ideal.ofBits FTy.f32 1040187392#32

/-- The weight of key `t` before it is divided by their sum. -/
def weight (q : Fin 64 → EReal) (K : Fin 128 → Fin 64 → EReal) (t : Fin 128) : EReal :=
  Ideal.exp (score q K t - Finset.fold max (Ideal.ofBits FTy.f32 4286578688#32) (fun u => score q K u) Finset.univ)

/-- One entry of attention: the values `v` averaged by the softmax of the scores. -/
def soft (q : Fin 64 → EReal) (K : Fin 128 → Fin 64 → EReal) (v : Fin 128 → EReal) : EReal :=
  ∑ t, Ideal.div (weight q K t) (∑ u, weight q K u) * v t

/-- A sum over 4096 columns is the sum over sixteen blocks of 256. -/
theorem sum_blocks (f : Fin 4096 → EReal) : ∑ n, f n = ∑ j : Fin 16, ∑ k : Fin 256, f ⟨256 * j.val + k.val, by omega⟩ := by
  rw [← Fintype.sum_prod_type' (f := fun (j : Fin 16) (k : Fin 256) => f ⟨256 * j.val + k.val, by omega⟩)]
  refine (Fintype.sum_equiv (finProdFinEquiv (m := 16) (n := 256)) _ _ fun p => congrArg f (Fin.ext ?_)).symm
  show 256 * p.1.val + p.2.val = p.2.val + 256 * p.1.val
  omega

/-- A sum over sixteen devices, starting from any of them. -/
theorem sum_around (f : Fin 16 → EReal) (c : Fin 16) : ∑ d, f d = ∑ s : Fin 16, f ⟨(c.val + s.val) % 16, Nat.mod_lt _ (by decide)⟩ := by
  refine (Fintype.sum_equiv (Equiv.addLeft c) _ _ fun s => congrArg f (Fin.ext ?_)).symm
  show (c.val + s.val) % 16 = (c + s).val
  rw [Fin.val_add]

end Cert.Value
-- ==== Proof.Value.Head.lean ====
/-
# 01_k — the kernel's arithmetic over the extended reals, at an index
-/
module

public import proofs.«01_k».proof.Proof.KernelIdeal.Body
public import proofs.«01_k».proof.Proof.Value.Softmax

@[expose] public section

set_option maxRecDepth 16384

noncomputable section

namespace Cert.Value

open Cert.KernelIdeal Cert.KernelIdeal.Gen Cert.KernelIdeal.Ring
open Idealize.ShloMosaic Idealize.ShloMosaic.TcCoe

/-! ## What a device starts from, at an index -/

section Reads
variable (m : (ℓ : Loc nD τ sig) → Buf (Elt Ideal) ℓ) (c : Dev nD)

theorem xA_at (b : Fin 2) (r : Fin 128) (e : Fin 512) :
    (xA m c (ix3 b r e) : EReal) = (m ((c : Thread nD τ).loc main_arg0) (ix3 b r e) : EReal) := by
  refine congrArg (m ((c : Thread nD τ).loc main_arg0)) ?_
  funext a
  apply Fin.ext
  match a with
  | 0 => exact (Nat.zero_add _).trans (Nat.one_mul _)
  | 1 => exact (Nat.zero_add _).trans (Nat.one_mul _)
  | 2 => exact (Nat.zero_add _).trans (Nat.one_mul _)

theorem wqA_at (e : Fin 512) (k : Fin 256) :
    (wqA m c (ix2 e k) : EReal) = (m ((c : Thread nD τ).loc main_arg1) (ix2 e k) : EReal) := by
  refine congrArg (m ((c : Thread nD τ).loc main_arg1)) ?_
  funext a
  apply Fin.ext
  match a with
  | 0 => exact (Nat.zero_add _).trans (Nat.one_mul _)
  | 1 => exact (Nat.zero_add _).trans (Nat.one_mul _)

theorem woA_at (k : Fin 256) (o : Fin 512) :
    (woA m c (ix2 k o) : EReal) = (m ((c : Thread nD τ).loc main_arg4) (ix2 k o) : EReal) := by
  refine congrArg (m ((c : Thread nD τ).loc main_arg4)) ?_
  funext a
  apply Fin.ext
  match a with
  | 0 => exact (Nat.zero_add _).trans (Nat.one_mul _)
  | 1 => exact (Nat.zero_add _).trans (Nat.one_mul _)

/-- Where an entry of device `c`'s part of the keys or the values lies in the whole. -/
theorem kv_emb (b : Fin 2) (t : Fin 128) (h d : Fin 64) (hc : 2 * c.val + b.val < 32) :
    (Rect.unit (s := S32x128x64x64) (k0_off1 c) S2x128x64x64.size (k0_off1_inb c)).emb (ix4 b t h d) = ix4 ⟨2 * c.val + b.val, hc⟩ t h d := by
  have e := k0_off1_eq c
  funext a
  apply Fin.ext
  match a with
  | 0 => show k0_off1 c 0 + 1 * b.val = 2 * c.val + b.val; rw [e, Nat.one_mul]; rfl
  | 1 => show k0_off1 c 1 + 1 * t.val = t.val; rw [e, Nat.one_mul]; exact Nat.zero_add _
  | 2 => show k0_off1 c 2 + 1 * h.val = h.val; rw [e, Nat.one_mul]; exact Nat.zero_add _
  | 3 => show k0_off1 c 3 + 1 * d.val = d.val; rw [e, Nat.one_mul]; exact Nat.zero_add _

theorem kvB0_at (b : Fin 2) (t : Fin 128) (h d : Fin 64) (hc : 2 * c.val + b.val < 32) :
    (kvB m 0 c (ix4 b t h d) : EReal) = (m ((c : Thread nD τ).loc main_arg2) (ix4 ⟨2 * c.val + b.val, hc⟩ t h d) : EReal) :=
  congrArg (m ((c : Thread nD τ).loc main_arg2)) (kv_emb c b t h d hc)

theorem kvB1_at (b : Fin 2) (t : Fin 128) (h d : Fin 64) (hc : 2 * c.val + b.val < 32) :
    (kvB m 1 c (ix4 b t h d) : EReal) = (m ((c : Thread nD τ).loc main_arg3) (ix4 ⟨2 * c.val + b.val, hc⟩ t h d) : EReal) :=
  congrArg (m ((c : Thread nD τ).loc main_arg3)) (kv_emb c b t h d hc)

end Reads

/-! ## One head, one block -/

theorem kvAt_at (w : Vec Ideal S2x128x64x64 .f32) (j : Fin 16) (n : Fin 8) (t : Fin 128) (d : Fin 64) :
    kvAt w j n (ix4 0 t 0 d) = w (ix4 ⟨n.val / 4, by omega⟩ t ⟨4 * j.val + n.val % 4, by omega⟩ d) := by
  unfold kvAt
  refine congrArg w ?_
  funext a
  apply Fin.ext
  match a with
  | 0 => exact congrArg (n.val / 4 + ·) (Nat.one_mul _)
  | 1 => exact (Nat.zero_add _).trans (Nat.one_mul _)
  | 2 => exact congrArg (4 * j.val + n.val % 4 + ·) (Nat.one_mul _)
  | 3 => exact (Nat.zero_add _).trans (Nat.one_mul _)

theorem att_at (X : FVec Ideal S256x256 .f32) (kB vB : Vec Ideal S2x128x64x64 .f32) (j : Fin 16) (n : Fin 8) (r : Fin 128) (d : Fin 64) :
    (att X kB vB j n (ix2 r d) : EReal)
      = soft (fun e => X (ix2 ⟨128 * (n.val / 4) + r.val, by omega⟩ ⟨64 * (n.val % 4) + e.val, by omega⟩))
          (fun t e => kB (ix4 ⟨n.val / 4, by omega⟩ t ⟨4 * j.val + n.val % 4, by omega⟩ e))
          (fun t => vB (ix4 ⟨n.val / 4, by omega⟩ t ⟨4 * j.val + n.val % 4, by omega⟩ d)) := by
  unfold att qAt
  pointwise [k0_pay60, k0_pay59]
  simp only [kvAt_at]
  rfl

/-- One block's part of entry `(i, o)` of the output. -/
theorem accStep_at (x2 : FVec Ideal S256x512 .bf16) (aq : Vec Ideal S1x512x256 .bf16) (ao : Vec Ideal S1x256x512 .bf16) (kB vB : Vec Ideal S2x128x64x64 .f32)
    (j : Fin 16) (acc : Vec Ideal S256x512 .f32) (i : Fin 256) (o : Fin 512) :
    (accStep x2 aq ao kB vB j acc (ix2 i o) : EReal)
      = acc (ix2 i o) + ∑ k : Fin 256, soft (fun e => ∑ f : Fin 512, x2 (ix2 i f) * aq (ix3 0 f ⟨k.val / 64 * 64 + e.val, by omega⟩))
          (fun t e => kB (ix4 ⟨i.val / 128, by omega⟩ t ⟨4 * j.val + k.val / 64, by omega⟩ e))
          (fun t => vB (ix4 ⟨i.val / 128, by omega⟩ t ⟨4 * j.val + k.val / 64, by omega⟩ ⟨k.val % 64, by omega⟩)) * ao (ix3 0 k o) := by
  unfold accStep
  pointwise [k0_pay79, k0_pay56]
  refine congrArg (_ + ·) (Finset.sum_congr rfl fun k _ => congrArg (· * _) ?_)
  have e : ctxOf (att (k0_pay57 x2 aq) kB vB j) (ix2 i k)
      = att (k0_pay57 x2 aq) kB vB j ⟨4 * (i.val / 128) + k.val / 64, by omega⟩ (ix2 ⟨i.val % 128, by omega⟩ ⟨k.val % 64, by omega⟩) := by
    refine congrArg (att (k0_pay57 x2 aq) kB vB j _) ?_
    funext a
    match a with
    | 0 => rfl
    | 1 => rfl
  rw [e]
  refine (att_at _ _ _ _ _ _ _).trans ?_
  have hb : (4 * (i.val / 128) + k.val / 64) / 4 = i.val / 128 := by omega
  have hh : (4 * (i.val / 128) + k.val / 64) % 4 = k.val / 64 := by omega
  have hi : 128 * (i.val / 128) + i.val % 128 = i.val := by omega
  pointwise [k0_pay57]
  simp only [hb, hh, hi, Nat.mul_comm 64]

/-- The first two payloads: the queries' rows as they are, the two weights as they are. -/
theorem x2_at (x : Vec Ideal S2x128x512 .f32) (b : Fin 2) (r : Fin 128) (e : Fin 512) :
    (k0_pay54 x (ix2 ⟨128 * b.val + r.val, by omega⟩ e) : EReal) = x (ix3 b r e) := by
  pointwise [k0_pay54]

theorem wq_at (w : Vec Ideal S512x256 .f32) (e : Fin 512) (k : Fin 256) : (k0_pay50 w (ix3 0 e k) : EReal) = w (ix2 e k) := by
  pointwise [k0_pay50, k0_pay48]

theorem wo_at (w : Vec Ideal S256x512 .f32) (k : Fin 256) (o : Fin 512) : (k0_pay51 w (ix3 0 k o) : EReal) = w (ix2 k o) := by
  pointwise [k0_pay51, k0_pay49]

theorem zero_at (i : Fin 256) (o : Fin 512) : (k0_pay55 (F := Ideal) (ix2 i o) : EReal) = (0 : EReal) := by
  pointwise [k0_pay55]

theorem out_at (a : Vec Ideal S256x512 .f32) (b : Fin 2) (r : Fin 128) (o : Fin 512) :
    (k0_pay2 a (ix3 b r o) : EReal) = a (ix2 ⟨128 * b.val + r.val, by omega⟩ o) := by
  pointwise [k0_pay2]
  refine congrArg a ?_
  simp only [Nat.mul_comm 128]

end Cert.Value
-- ==== Proof.Value.Ref.lean ====
/-
# 01_k — the reference's arithmetic over the extended reals, at an index
-/
module

public import proofs.«01_k».proof.Proof.Value.Softmax

@[expose] public section

set_option maxRecDepth 16384

noncomputable section

namespace Cert.Value

open Cert.ReferenceIdeal Cert.ReferenceIdeal.Gen Cert.ReferenceIdeal.Value
open Idealize.ShloMosaic Idealize.ShloMosaic.TcCoe

/-- Two positions of 128 are never more than 128 apart. -/
theorem near (r t : Fin 128) :
    IntOp.cmpi CmpIPredicate.sle (IntOp.absi (IntOp.subi (BitVec.ofNat 32 r.val) (BitVec.ofNat 32 t.val))) 128#32 = 1#1 := by
  revert r t; decide +kernel

theorem any_one : Finset.fold IntOp.ori (0#1) (fun _ : Fin 128 => 1#1) Finset.univ = 1#1 := by decide +kernel

theorem select_one {α : Type} (a b : α) : Scalar.select 1#1 a b = a := rfl

/-- Entry `(b, r, o)` of the reference's result. -/
def refAt (x : S32x128x512.Idx → EReal) (wq : S512x4096.Idx → EReal) (k v : S32x128x64x64.Idx → EReal) (wo : S4096x512.Idx → EReal)
    (b : Fin 32) (r : Fin 128) (o : Fin 512) : EReal :=
  ∑ n : Fin 4096, soft (fun d => ∑ e : Fin 512, x (ix3 b r e) * wq (ix2 e ⟨n.val / 64 * 64 + d.val, by omega⟩))
      (fun t d => k (ix4 b t ⟨n.val / 64, by omega⟩ d)) (fun t => v (ix4 b t ⟨n.val / 64, by omega⟩ ⟨n.val % 64, by omega⟩))
    * wo (ix2 n o)

theorem ref_at (m : (ℓ : Loc nD τ sig) → Buf (Elt Ideal) ℓ) (c : Dev nD) (b : Fin 32) (r : Fin 128) (o : Fin 512) :
    (res_main_v34 m c (ix3 b r o) : EReal)
      = refAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b r o := by
  unfold res_main_v34
  clean_types
  pointwise
  simp only [near, any_one, select_one]
  unfold refAt soft weight score
  refine Finset.sum_congr rfl fun n _ => congrArg (· * _) (Finset.sum_congr rfl fun t _ => ?_)
  exact mul_comm _ _

end Cert.Value
-- ==== Proof.Value.Ring.lean ====
/-
# 01_k — the sum round the ring is the reference's sum
-/
module

public import proofs.«01_k».proof.Proof.Value.Head
public import proofs.«01_k».proof.Proof.Value.Ref
public import Idealize.ShloMosaic.Lib.Layout

@[expose] public section

set_option maxRecDepth 16384

noncomputable section

namespace Cert.Value

open Cert.KernelIdeal Cert.KernelIdeal.Gen Cert.KernelIdeal.Ring
open Idealize.ShloMosaic Idealize.ShloMosaic.TcCoe

/-- If every device's part adds `g d`, the output on device `c` is the sum of `g` over the ring. -/
theorem accLast_sum (m : (ℓ : Loc nD τ sig) → Buf (Elt Ideal) ℓ) (c : Dev nD) (i : S256x512.Idx) (g : Fin 16 → EReal)
    (h0 : (k0_pay55 (F := Ideal) i : EReal) = (0 : EReal))
    (h : ∀ (d : Dev nD) (acc : Vec Ideal S256x512 .f32), (accD m c d acc i : EReal) = (acc i : EReal) + g d) :
    (accLast m c i : EReal) = ∑ d, g d := by
  have ha : ∀ s, ahead s c = (⟨(c.val + s) % 16, Nat.mod_lt _ (by decide)⟩ : Fin 16) := fun s => rfl
  have hb : ∀ s, s ≤ 16 → back s c = (⟨(c.val + (16 - s)) % 16, Nat.mod_lt _ (by decide)⟩ : Fin 16) := fun s hs => Fin.ext (by
    show (c.val + (16 - s % 16)) % 16 = (c.val + (16 - s)) % 16
    omega)
  have hz : (⟨(c.val + 16) % 16, Nat.mod_lt _ (by decide)⟩ : Fin 16) = ⟨(c.val + 0) % 16, Nat.mod_lt _ (by decide)⟩ := Fin.ext (by
    show (c.val + 16) % 16 = (c.val + 0) % 16
    omega)
  have step : ∀ t, (accAt m c (t + 1) i : EReal) = (accAt m c t i : EReal) + g (back (t + 1) c) + g (ahead (t + 1) c) := fun t =>
    (h _ _).trans (congrArg (· + _) (h _ _))
  have first : (accAt m c 0 i : EReal) = g (back 0 c) := (h _ _).trans (by rw [h0, zero_add])
  have last : (accLast m c i : EReal) = (accAt m c 6 i : EReal) + g (back 7 c) + g (ahead 7 c) + g (back 8 c) :=
    (h _ _).trans (congrArg (· + _) ((h _ _).trans (congrArg (· + _) (h _ _))))
  rw [last, step, step, step, step, step, step, first, sum_around g c]
  simp only [ha, hb, Nat.reduceLeDiff, Nat.reduceAdd, Nat.reduceSub, Nat.zero_le, Nat.sub_zero]
  rw [hz]
  simp only [Fin.sum_univ_succ, Fin.sum_univ_zero]
  simp only [Fin.val_zero, Fin.val_succ, Nat.reduceAdd]
  abel

/-- Device `c`'s part of the output is its part of the reference's result, over whole arrays of which every device holds its parts. -/
theorem out_eq (m : (ℓ : Loc nD τ sig) → Buf (Elt Ideal) ℓ) (x : (⟨3, ![32, 128, 512]⟩ : Shape).Idx → EReal) (wq : (⟨2, ![512, 4096]⟩ : Shape).Idx → EReal)
    (k v : (⟨4, ![32, 128, 64, 64]⟩ : Shape).Idx → EReal) (wo : (⟨2, ![4096, 512]⟩ : Shape).Idx → EReal)
    (hx : ∀ c : Dev nD, m ((c : Thread nD τ).loc main_arg0) = Layout.block ⟨3, ![2, 128, 512]⟩ ⟨3, ![32, 128, 512]⟩ 0 16 c x)
    (hq : ∀ c : Dev nD, m ((c : Thread nD τ).loc main_arg1) = Layout.block ⟨2, ![512, 256]⟩ ⟨2, ![512, 4096]⟩ 1 16 c wq)
    (hk : ∀ c : Dev nD, m ((c : Thread nD τ).loc main_arg2) = k)
    (hv : ∀ c : Dev nD, m ((c : Thread nD τ).loc main_arg3) = v)
    (ho : ∀ c : Dev nD, m ((c : Thread nD τ).loc main_arg4) = Layout.block ⟨2, ![256, 512]⟩ ⟨2, ![4096, 512]⟩ 0 16 c wo)
    (c : Dev nD) (b : Fin 2) (r : Fin 128) (o : Fin 512) (hb : 2 * c.val + b.val < 32) :
    (k0_pay2 (accLast m c) (ix3 b r o) : EReal) = refAt x wq k v wo ⟨2 * c.val + b.val, hb⟩ r o := by
  have ex : ∀ e, (xA m c (ix3 b r e) : EReal) = x (ix3 ⟨2 * c.val + b.val, hb⟩ r e) := fun e => by
    refine (xA_at m c b r e).trans ?_
    rw [hx]
    refine congrArg x ?_
    funext a
    apply Fin.ext
    match a with
    | 0 => exact congrArg (· + b.val) (Nat.mul_comm _ _)
    | 1 => rfl
    | 2 => rfl
  have eq : ∀ (d : Dev nD) (e : Fin 512) (n : Fin 256) (hn : 256 * d.val + n.val < 4096), (wqA m d (ix2 e n) : EReal) = wq (ix2 e ⟨256 * d.val + n.val, hn⟩) := fun d e n hn => by
    refine (wqA_at m d e n).trans ?_
    rw [hq]
    refine congrArg wq ?_
    funext a
    apply Fin.ext
    match a with
    | 0 => rfl
    | 1 => exact congrArg (· + n.val) (Nat.mul_comm _ _)
  have eo : ∀ (d : Dev nD) (n : Fin 256) (hn : 256 * d.val + n.val < 4096), (woA m d (ix2 n o) : EReal) = wo (ix2 ⟨256 * d.val + n.val, hn⟩ o) := fun d n hn => by
    refine (woA_at m d n o).trans ?_
    rw [ho]
    refine congrArg wo ?_
    funext a
    apply Fin.ext
    match a with
    | 0 => exact congrArg (· + n.val) (Nat.mul_comm _ _)
    | 1 => rfl
  have ek : ∀ t h d, (kvB m 0 c (ix4 b t h d) : EReal) = k (ix4 ⟨2 * c.val + b.val, hb⟩ t h d) := fun t h d =>
    (kvB0_at m c b t h d hb).trans (congrFun (hk c) _)
  have ev : ∀ t h d, (kvB m 1 c (ix4 b t h d) : EReal) = v (ix4 ⟨2 * c.val + b.val, hb⟩ t h d) := fun t h d =>
    (kvB1_at m c b t h d hb).trans (congrFun (hv c) _)
  refine (out_at _ b r o).trans ?_
  unfold refAt
  rw [sum_blocks]
  refine accLast_sum m c (ix2 ⟨128 * b.val + r.val, by omega⟩ o) _ (zero_at _ _) fun d acc => ?_
  have hdv : d.val < 16 := d.isLt
  refine (accStep_at _ _ _ _ _ _ _ _ _).trans (congrArg (_ + ·) (Finset.sum_congr rfl fun n _ => ?_))
  have hd : (128 * b.val + r.val) / 128 = b.val := by omega
  have hj : (jOf d).val = d.val := rfl
  have h1 : (256 * d.val + n.val) / 64 = 4 * d.val + n.val / 64 := by omega
  have h2 : (256 * d.val + n.val) % 64 = n.val % 64 := by omega
  have h3 : ∀ e, 256 * d.val + (n.val / 64 * 64 + e) = (4 * d.val + n.val / 64) * 64 + e := fun e => by omega
  have e1 : ∀ (f : Fin 512) (e : Fin 64), (wqA m d (ix2 f ⟨n.val / 64 * 64 + e.val, by omega⟩) : EReal) = wq (ix2 f ⟨(4 * d.val + n.val / 64) * 64 + e.val, by omega⟩) := fun f e =>
    (eq d f _ (by dsimp only; omega)).trans (by simp only [h3])
  have e2 : (woA m d (ix2 n o) : EReal) = wo (ix2 ⟨256 * d.val + n.val, by omega⟩ o) := eo d n (by omega)
  simp only [x2_at, wq_at, wo_at, ex, hd, hj, h1, h2, ek, ev, e1, e2]

end Cert.Value
-- ==== Proof.lean ====
/-
# 01_k — the claims

Both printed programs run on the sixteen devices (`Kernel.Ring.run_end`, `KernelIdeal.Ring.run_end`), the reference runs on one,
and entry by entry each device's result is its part of the reference's result (`Value.out_eq`, `Value.ref_at`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Final
public import proofs.«01_k».proof.Proof.KernelIdeal.Final
public import proofs.«01_k».proof.Proof.Value.Ring
public import Idealize.ShloMosaic.Adequacy
public import Idealize.ShloMosaic.Init
public import Idealize.ShloMosaic.Lib.Quiescent

@[expose] public section

noncomputable section

namespace Cert.Proof

open Idealize.ShloMosaic Idealize.SL.Sem

/-- An entry of a device's result, in its part of the reference's result. -/
theorem block_out (x : (⟨3, ![32, 128, 512]⟩ : Shape).Idx → EReal) (c : Fin 16) (b : Fin 2) (r : Fin 128) (o : Fin 512) (hb : 2 * c.val + b.val < 32) :
    Layout.block ⟨3, ![2, 128, 512]⟩ ⟨3, ![32, 128, 512]⟩ 0 16 c x (by decide) (ix3 b r o) = x (ix3 ⟨2 * c.val + b.val, hb⟩ r o) := by
  refine congrArg x ?_
  funext a
  apply Fin.ext
  match a with
  | 0 => exact congrArg (· + b.val) (Nat.mul_comm _ _)
  | 1 => rfl
  | 2 => rfl

/-- The reference's arguments stay what they were; it declares no semaphore. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- Over the reals, each device of the kernel ends with its two batches of the reference's result. -/
theorem algebraic : Cert.algebraic_KernelIdeal_ReferenceIdeal (hKernelIdeal := Cert.KernelIdeal.Gen.facts)
    (hReferenceIdeal := Cert.ReferenceIdeal.Gen.facts) := by
  intro m g m' g' _ h
  refine ⟨Cert.ReferenceIdeal.Value.res_main_v34 m' 0, ?_, ?_⟩
  · refine (θ_run Cert.KernelIdeal.defs _ _).mono (fun r hr c => ⟨(hr.1 c).1.trans ?_, (hr.1 c).2⟩) (Cert.KernelIdeal.Ring.run_end m g)
    have hc : c.val < 16 := c.isLt
    funext i
    obtain ⟨b, r, o, rfl⟩ : ∃ (b : Fin 2) (r : Fin 128) (o : Fin 512), i = ix3 b r o := ⟨i 0, i 1, i 2, eq_ix3 i⟩
    refine (Cert.Value.out_eq m _ _ _ _ _ (fun d => (h d).1) (fun d => (h d).2.1) (fun d => (h d).2.2.1) (fun d => (h d).2.2.2.1)
      (fun d => (h d).2.2.2.2) c b r o (by omega)).trans ?_
    exact (Cert.Value.ref_at m' 0 ⟨2 * c.val + b.val, by omega⟩ r o).symm.trans (block_out _ c b r o _).symm
  · exact (θ_run Cert.ReferenceIdeal.defs _ _).mono (fun r hr => hr 0) (Cert.ReferenceIdeal.Value.run m' g')

theorem claim : Cert.Claim := ⟨Cert.Kernel.Gen.facts, Cert.KernelIdeal.Gen.facts, Cert.ReferenceIdeal.Gen.facts,
  fun m g _ => (θ_run Cert.Kernel.defs _ _).mono (fun _ h => ⟨fun c => (h.1 c).2, h.2⟩) (Cert.Kernel.Ring.run_end m g),
  fun m g _ => (θ_run Cert.KernelIdeal.defs _ _).mono (fun _ h => ⟨fun c => (h.1 c).2, h.2⟩) (Cert.KernelIdeal.Ring.run_end m g),
  frame_reference, trivial, algebraic⟩

end Cert.Proof

end
